-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024 : Shape := ⟨2, ![16, 1024]⟩
abbrev S16x1024x256 : Shape := ⟨3, ![16, 1024, 256]⟩
abbrev S2048x256 : Shape := ⟨2, ![2048, 256]⟩
abbrev S256x256 : Shape := ⟨2, ![256, 256]⟩
abbrev S256 : Shape := ⟨1, ![256]⟩
abbrev S_ : Shape := ⟨0, ![]⟩
abbrev S2048 : Shape := ⟨1, ![2048]⟩
abbrev S1x256 : Shape := ⟨2, ![1, 256]⟩
abbrev S16x512x512 : Shape := ⟨3, ![16, 512, 512]⟩
abbrev S1x2048 : Shape := ⟨2, ![1, 2048]⟩
abbrev S8x1x1024 : Shape := ⟨3, ![8, 1, 1024]⟩
abbrev S2x512x512 : Shape := ⟨3, ![2, 512, 512]⟩
abbrev S1x1x1024 : Shape := ⟨3, ![1, 1, 1024]⟩
abbrev S1024x512 : Shape := ⟨2, ![1024, 512]⟩
abbrev S1024x256 : Shape := ⟨2, ![1024, 256]⟩
abbrev S1024x2048 : Shape := ⟨2, ![1024, 2048]⟩
abbrev S1024x128 : Shape := ⟨2, ![1024, 128]⟩
abbrev S1024x8 : Shape := ⟨2, ![1024, 8]⟩
abbrev S1024x4 : Shape := ⟨2, ![1024, 4]⟩
abbrev S1024x2 : Shape := ⟨2, ![1024, 2]⟩
abbrev S1024x1 : Shape := ⟨2, ![1024, 1]⟩
abbrev S1024 : Shape := ⟨1, ![1024]⟩
abbrev S64x128 : Shape := ⟨2, ![64, 128]⟩
abbrev S2048x2x128 : Shape := ⟨3, ![2048, 2, 128]⟩
abbrev S8192x2x128 : Shape := ⟨3, ![8192, 2, 128]⟩
abbrev S32x16 : Shape := ⟨2, ![32, 16]⟩
abbrev S2x128 : Shape := ⟨2, ![2, 128]⟩
abbrev S256x2x128 : Shape := ⟨3, ![256, 2, 128]⟩
abbrev S16 : Shape := ⟨1, ![16]⟩
abbrev S128x2x128 : Shape := ⟨3, ![128, 2, 128]⟩
abbrev S1x128 : Shape := ⟨2, ![1, 128]⟩
abbrev S128 : Shape := ⟨1, ![128]⟩
abbrev S1x16 : Shape := ⟨2, ![1, 16]⟩
abbrev S16x512 : Shape := ⟨2, ![16, 512]⟩
abbrev S16x512x256 : Shape := ⟨3, ![16, 512, 256]⟩

abbrev nBuf : Table → Nat
  | .hbm => 25
  | .local .tc .vmem => 9
  | .local .scVector .vmem => 4
  | _ => 0

abbrev bufTy : (tb : Table) → Fin (nBuf tb) → BufTy
  | .hbm, ⟨0, _⟩ => ⟨S16x1024, .i32⟩
  | .hbm, ⟨1, _⟩ => ⟨S16x1024x256, .f32⟩
  | .hbm, ⟨2, _⟩ => ⟨S2048x256, .f32⟩
  | .hbm, ⟨3, _⟩ => ⟨S256x256, .f32⟩
  | .hbm, ⟨4, _⟩ => ⟨S256, .f32⟩
  | .hbm, ⟨5, _⟩ => ⟨S2048x256, .f32⟩
  | .hbm, ⟨6, _⟩ => ⟨S_, .f32⟩
  | .hbm, ⟨7, _⟩ => ⟨S2048, .f32⟩
  | .hbm, ⟨8, _⟩ => ⟨S1x256, .f32⟩
  | .hbm, ⟨9, _⟩ => ⟨S16x512x512, .f32⟩
  | .hbm, ⟨10, _⟩ => ⟨S1x2048, .f32⟩
  | .hbm, ⟨11, _⟩ => ⟨S8x1x1024, .i32⟩
  | .hbm, ⟨12, _⟩ => ⟨S1x2048, .f32⟩
  | .hbm, ⟨13, _⟩ => ⟨S64x128, .i32⟩
  | .hbm, ⟨14, _⟩ => ⟨S2048x2x128, .f32⟩
  | .hbm, ⟨15, _⟩ => ⟨S2048, .f32⟩
  | .hbm, ⟨16, _⟩ => ⟨S8192x2x128, .f32⟩
  | .hbm, ⟨17, _⟩ => ⟨S32x16, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16x512, .i32⟩
  | .hbm, ⟨23, _⟩ => ⟨S16x512x256, .f32⟩
  | .hbm, ⟨24, _⟩ => ⟨S_, .f32⟩
  | .local .tc .vmem, ⟨0, _⟩ => ⟨S2x512x512, .f32⟩
  | .local .tc .vmem, ⟨1, _⟩ => ⟨S2x512x512, .f32⟩
  | .local .tc .vmem, ⟨2, _⟩ => ⟨S1x2048, .f32⟩
  | .local .tc .vmem, ⟨3, _⟩ => ⟨S2048x256, .f32⟩
  | .local .tc .vmem, ⟨4, _⟩ => ⟨S256x256, .f32⟩
  | .local .tc .vmem, ⟨5, _⟩ => ⟨S1x256, .f32⟩
  | .local .tc .vmem, ⟨6, _⟩ => ⟨S1x1x1024, .i32⟩
  | .local .tc .vmem, ⟨7, _⟩ => ⟨S1x1x1024, .i32⟩
  | .local .tc .vmem, ⟨8, _⟩ => ⟨S1x2048, .f32⟩
  | .local .scVector .vmem, ⟨0, _⟩ => ⟨S2x128, .i32⟩
  | .local .scVector .vmem, ⟨1, _⟩ => ⟨S256x2x128, .f32⟩
  | .local .scVector .vmem, ⟨2, _⟩ => ⟨S256, .f32⟩
  | .local .scVector .vmem, ⟨3, _⟩ => ⟨S16, .f32⟩
  | _, _ => ⟨S16x1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v6_scv : Ref sig .scVector := ⟨.hbm, 13, rfl⟩
abbrev main_v7_scv : Ref sig .scVector := ⟨.hbm, 14, rfl⟩
abbrev main_v8_scv : Ref sig .scVector := ⟨.hbm, 15, rfl⟩
abbrev main_v9_0_scv : Ref sig .scVector := ⟨.hbm, 16, rfl⟩
abbrev main_v9_1_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32_47_r0 : BitVec 32 := 0#32
  ![v3.toNat, 0]
def k1_off2 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_47_r1 : BitVec 32 := 0#32
  let c0_i32_48_r1 : BitVec 32 := 0#32
  ![v2.toNat, 0, 0]
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_47_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x1024 : Shape := ⟨2, ![16, 1024]⟩
abbrev S16x1024x256 : Shape := ⟨3, ![16, 1024, 256]⟩
abbrev S2048x256 : Shape := ⟨2, ![2048, 256]⟩
abbrev S256x256 : Shape := ⟨2, ![256, 256]⟩
abbrev S256 : Shape := ⟨1, ![256]⟩
abbrev S16x512x2x256 : Shape := ⟨4, ![16, 512, 2, 256]⟩
abbrev S_ : Shape := ⟨0, ![]⟩
abbrev S16x512x256 : Shape := ⟨3, ![16, 512, 256]⟩
abbrev S16x512 : Shape := ⟨2, ![16, 512]⟩
abbrev S16x512x1 : Shape := ⟨3, ![16, 512, 1]⟩
abbrev S2048 : Shape := ⟨1, ![2048]⟩
abbrev S16x512x2048 : Shape := ⟨3, ![16, 512, 2048]⟩
abbrev S1x1x2048 : Shape := ⟨3, ![1, 1, 2048]⟩
abbrev S1 : Shape := ⟨1, ![1]⟩
abbrev S1x1x1 : Shape := ⟨3, ![1, 1, 1]⟩
abbrev S8192x256 : Shape := ⟨2, ![8192, 256]⟩
abbrev S1x256 : Shape := ⟨2, ![1, 256]⟩

abbrev nBuf : Space → Nat
  | .hbm => 66
  | .vmem => 0
  | .smem => 0
  | _ => 0

abbrev bufTy : (tb : Table) → Fin (tcTables nBuf tb) → BufTy
  | .hbm, ⟨0, _⟩ => ⟨S16x1024, .i32⟩
  | .hbm, ⟨1, _⟩ => ⟨S16x1024x256, .f32⟩
  | .hbm, ⟨2, _⟩ => ⟨S2048x256, .f32⟩
  | .hbm, ⟨3, _⟩ => ⟨S256x256, .f32⟩
  | .hbm, ⟨4, _⟩ => ⟨S256, .f32⟩
  | .hbm, ⟨5, _⟩ => ⟨S16x512x2x256, .f32⟩
  | .hbm, ⟨6, _⟩ => ⟨S_, .f32⟩
  | .hbm, ⟨7, _⟩ => ⟨S16x512x256, .f32⟩
  | .hbm, ⟨8, _⟩ => ⟨S_, .f32⟩
  | .hbm, ⟨9, _⟩ => ⟨S16x512x256, .f32⟩
  | .hbm, ⟨10, _⟩ => ⟨S16x512x256, .f32⟩
  | .hbm, ⟨11, _⟩ => ⟨S16x512x256, .f32⟩
  | .hbm, ⟨12, _⟩ => ⟨S_, .f32⟩
  | .hbm, ⟨13, _⟩ => ⟨S16x512, .f32⟩
  | .hbm, ⟨14, _⟩ => ⟨S16x512x1, .f32⟩
  | .hbm, ⟨15, _⟩ => ⟨S2048x256, .f32⟩
  | .hbm, ⟨16, _⟩ => ⟨S_, .f32⟩
  | .hbm, ⟨17, _⟩ => ⟨S2048, .f32⟩
  | .hbm, ⟨18, _⟩ => ⟨S16x512x2048, .f32⟩
  | .hbm, ⟨19, _⟩ => ⟨S_, .f32⟩
  | .hbm, ⟨20, _⟩ => ⟨S16x512x2048, .f32⟩
  | .hbm, ⟨21, _⟩ => ⟨S16x512x2048, .f32⟩
  | .hbm, ⟨22, _⟩ => ⟨S16x512x2048, .f32⟩
  | .hbm, ⟨23, _⟩ => ⟨S16x512x2048, .f32⟩
  | .hbm, ⟨24, _⟩ => ⟨S1x1x2048, .f32⟩
  | .hbm, ⟨25, _⟩ => ⟨S16x512x2048, .f32⟩
  | .hbm, ⟨26, _⟩ => ⟨S16x512x2048, .f32⟩
  | .hbm, ⟨27, _⟩ => ⟨S16x512x2048, .i32⟩
  | .hbm, ⟨28, _⟩ => ⟨S_, .f32⟩
  | .hbm, ⟨29, _⟩ => ⟨S_, .i32⟩
  | .hbm, ⟨30, _⟩ => ⟨S16x512, .f32⟩
  | .hbm, ⟨31, _⟩ => ⟨S16x512, .i32⟩
  | .hbm, ⟨32, _⟩ => ⟨S_, .i32⟩
  | .hbm, ⟨33, _⟩ => ⟨S16x512, .i32⟩
  | .hbm, ⟨34, _⟩ => ⟨S16x512, .i1⟩
  | .hbm, ⟨35, _⟩ => ⟨S_, .i32⟩
  | .hbm, ⟨36, _⟩ => ⟨S16x512, .i32⟩
  | .hbm, ⟨37, _⟩ => ⟨S16x512, .i32⟩
  | .hbm, ⟨38, _⟩ => ⟨S16x512, .i32⟩
  | .hbm, ⟨39, _⟩ => ⟨S16x512x1, .i32⟩
  | .hbm, ⟨40, _⟩ => ⟨S1, .i32⟩
  | .hbm, ⟨41, _⟩ => ⟨S_, .i32⟩
  | .hbm, ⟨42, _⟩ => ⟨S16x512x1, .i32⟩
  | .hbm, ⟨43, _⟩ => ⟨S16x512x1, .i1⟩
  | .hbm, ⟨44, _⟩ => ⟨S1x1x1, .i32⟩
  | .hbm, ⟨45, _⟩ => ⟨S16x512x1, .i32⟩
  | .hbm, ⟨46, _⟩ => ⟨S16x512x1, .i1⟩
  | .hbm, ⟨47, _⟩ => ⟨S16x512x1, .i1⟩
  | .hbm, ⟨48, _⟩ => ⟨S_, .i1⟩
  | .hbm, ⟨49, _⟩ => ⟨S16x512, .i1⟩
  | .hbm, ⟨50, _⟩ => ⟨S16x512x256, .f32⟩
  | .hbm, ⟨51, _⟩ => ⟨S16x512x256, .i1⟩
  | .hbm, ⟨52, _⟩ => ⟨S_, .f32⟩
  | .hbm, ⟨53, _⟩ => ⟨S16x512x256, .f32⟩
  | .hbm, ⟨54, _⟩ => ⟨S16x512x256, .f32⟩
  | .hbm, ⟨55, _⟩ => ⟨S8192x256, .f32⟩
  | .hbm, ⟨56, _⟩ => ⟨S8192x256, .f32⟩
  | .hbm, ⟨57, _⟩ => ⟨S1x256, .f32⟩
  | .hbm, ⟨58, _⟩ => ⟨S8192x256, .f32⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_cst : Ref sig .tc := ⟨.hbm, 28, rfl⟩
abbrev main_call0_c : Ref sig .tc := ⟨.hbm, 29, rfl⟩
abbrev main_call0_v1_0 : Ref sig .tc := ⟨.hbm, 30, rfl⟩
abbrev main_v17 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_4 : Ref sig .tc := ⟨.hbm, 62, rfl⟩
abbrev main_v26 : Ref sig .tc := ⟨.hbm, 63, rfl⟩
abbrev main_cst_5 : Ref sig .tc := ⟨.hbm, 64, rfl⟩
abbrev main_v27 : Ref sig .tc := ⟨.hbm, 65, rfl⟩

abbrev nD : Nat := 1
abbrev τ : Topo := Topo.v7x

variable {F : FTy → Type} [FloatOps F]
-- ==== Proof.Setup.lean ====
/-
  The setting both halves of the proof share: the program as the launch theorem sees it, the resource algebra, the
  buffers' names, and what the SparseCore call computes from its three operands.

  Everything is stated for the KernelIdeal program over ANY float values `F`: the two programs have the same text, so
  each claim takes the run at its own values.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Pointwise.Index
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels below the SparseCore calls: the kernels' and the pipeline's. -/
abbrev ΛP : Labels := Pipeline.Sig Λ₀ (Fin 1) fun p => (pcfgs (F := F) p).Adm
/-- The one SparseCore call. -/
abbrev K : SparseCore.Cfg τ sig (ΛP (F := F)) 1 := sc (F := F)
/-- The bodies below the SparseCore call. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on two SparseCores of sixteen tiles. -/
theorem nSub_zero : (K (F := F)).nSub 0 = 16 := rfl
theorem nCore_zero : (K (F := F)).nCore 0 = 2 := rfl

/-- The call's own semaphores are what the launch asks of them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds: the left half of the right factor. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The buffers the SparseCore call works on -/

abbrev iLoc (d : Dev nD) : Loc nD τ sig := (SparseCore.T d).loc main_v6
abbrev tLoc (d : Dev nD) : Loc nD τ sig := (SparseCore.T d).loc main_v7
abbrev sLoc (d : Dev nD) : Loc nD τ sig := (SparseCore.T d).loc main_v8
abbrev eLoc (d : Dev nD) : Loc nD τ sig := (SparseCore.T d).loc main_v9_0
abbrev pLoc (d : Dev nD) : Loc nD τ sig := (SparseCore.T d).loc main_v9_1

/-! ## What the call computes -/

/-- The table row named by entry `r` of the list of row numbers, the list laid out in lines of 128. -/
def rowAt (ia : S64x128.Idx → BitVec 32) (r : Fin 8192) : Fin 2048 :=
  Fin.ofNat 2048 (ia (ix2 (n0 := 64) (n1 := 128) ⟨r.val / 128, by omega⟩ ⟨r.val % 128, by omega⟩)).toNat

/-- The gathered rows: row `r` is the table's row that entry `r` of the list names. -/
def embOf (ia : S64x128.Idx → BitVec 32) (ta : S2048x2x128.Idx → F .f32) : S8192x2x128.Idx → F .f32 :=
  fun x => ta (ix3 (n0 := 2048) (n1 := 2) (n2 := 128) (rowAt ia (x 0)) (x 1) (x 2))

/-- The sixteen row sums of lane group `g` of tile `w`: entries `256 w + 16 g + l` of the list name them. -/
def laneGroup (ia : S64x128.Idx → BitVec 32) (sa : S2048.Idx → F .f32) (w : Fin 32) (g : Fin 16) : S16.Idx → F .f32 :=
  fun l => sa (ix1 (n0 := 2048) (rowAt ia ⟨256 * w.val + 16 * g.val + (l 0).val, by have := (l 0).isLt; simp at this; omega⟩))

/-- Each tile's row of the second result: its sixteen lane groups added up from the first on. -/
def partsOf [FloatOps F] (ia : S64x128.Idx → BitVec 32) (sa : S2048.Idx → F .f32) : S32x16.Idx → F .f32 :=
  fun x =>
    let G := laneGroup ia sa (x 0)
    k1_pay1 (k1_pay2 (G 0) (G 1) (G 2) (G 3) (G 4) (G 5) (G 6) (G 7) (G 8) (G 9) (G 10) (G 11) (G 12) (G 13) (G 14)) (G 15)
      (ix1 (n0 := 16) (x 1))

end Cert.Proof

end
-- ==== Proof.Body.lean ====
/-
  The TensorCore kernel's body at one grid point: the row numbers it stores for the point's 1024 rows, and at the
  first point the table of row sums.
-/
module

public import proofs.«01_k».proof.Proof.Setup
public import proofs.«01_k».proof.Proof.Gen.KernelIdeal.Points
public import Idealize.ShloMosaic.Lib.Pipeline.FrameBody
public import Idealize.ShloMosaic.Lib.Pipeline.TableIdle
public import Idealize.ShloMosaic.Lib.Pipeline.Value

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The row numbers stored at one grid point, from the point's rows, the row of squared norms and the codebook. -/
def idxBlock (x : Vec F S2x512x512 .f32) (c2 : Vec F S1x2048 .f32) (cb : Vec F S2048x256 .f32) : IVec S1x1x1024 32 :=
  k0_pay1 (k0_pay4 x cb) (k0_pay5 x) (k0_pay6 x) c2

abbrev Bf (c : Dev nD) {sp : Space} {s : Shape} {e : EltTy} (M : Memref sig .tc sp s e) : Type := Buf (Elt F) (M.view.loc (c : Thread nD τ))
abbrev pt (c : Dev nD) {sp : Space} {s : Shape} {e : EltTy} (M : Memref sig .tc sp s e) (f : Bf (F := F) c M) : sProp 𝕄 :=
  M.view.loc (c : Thread nD τ) ↦{fullShare} f

/-- A load through a view at offset zero of the view's whole extent reads what the view reads. -/
theorem load_full (c : Dev nD) {sp : Space} {s : Shape} {e : EltTy} (M : Memref sig .tc sp s e) {off : Fin s.rank → Nat}
    (h : off = fun _ => 0) (inb : ∀ a, off a + s.size a ≤ s.size a) (f : Bf (F := F) c M) :
    View.readAt (Elt F) M.view (Rect.unit off s.size inb).toLoadRect f = M.view.read (Elt F) f := by
  subst h; funext x
  show M.view.read (Elt F) f ((Rect.whole s).emb x) = _
  rw [Rect.emb_whole_apply]

/-- After one store at offset zero of the view's whole extent the view reads the stored vector. -/
theorem store_full (c : Dev nD) {sp : Space} {s : Shape} {e : EltTy} (M : Memref sig .tc sp s e) {off : Fin s.rank → Nat}
    (h : off = fun _ => 0) (inb : ∀ a, off a + s.size a ≤ s.size a) (f : Bf (F := F) c M) (w : s.Idx → Elt F e) :
    M.view.read (Elt F) (M.view.writes (Elt F) f [⟨Rect.unit off s.size inb, w⟩]) = w := by
  subst h; funext x
  exact View.read_writes_cons_hit M.view f (Rect.whole s) w [] x x (Rect.emb_whole_apply s x)

theorem zero2 : (![0, 0] : Fin 2 → Nat) = fun _ => 0 := funext fun a => by fin_cases a <;> rfl
theorem zero3 : (![0, 0, 0] : Fin 3 → Nat) = fun _ => 0 := funext fun a => by fin_cases a <;> rfl

/-- At the first point the body stores the point's row numbers and the table of row sums. -/
theorem body_first (c : Dev nD) (i : grid0.Coords) (hi : k0_cond1 i = 1#1)
    (M1 : Memref sig .tc .vmem S2x512x512 .f32) (h1 : M1.IsWhole) (M2 : Memref sig .tc .vmem S1x2048 .f32) (h2 : M2.IsWhole)
    (M3 : Memref sig .tc .vmem S2048x256 .f32) (h3 : M3.IsWhole) (M4 : Memref sig .tc .vmem S256x256 .f32) (h4 : M4.IsWhole)
    (M5 : Memref sig .tc .vmem S1x256 .f32) (h5 : M5.IsWhole) (M6 : Memref sig .tc .vmem S1x1x1024 .i32) (h6 : M6.IsWhole)
    (M7 : Memref sig .tc .vmem S1x2048 .f32) (h7 : M7.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (E : Set ℕ) (Q : PUnit → sProp 𝕄) :
    iprop(pt c M1 f1 ∗ pt c M2 f2 ∗ pt c M3 f3 ∗ pt c M4 f4 ∗ pt c M5 f5 ∗ pt c M6 f6 ∗ pt c M7 f7
        ∗ (iprop(pt c M1 f1 ∗ pt c M2 f2 ∗ pt c M3 f3 ∗ pt c M4 f4 ∗ pt c M5 f5
              ∗ (∃ g, ⌜M6.view.read (Elt F) g = idxBlock (M1.view.read (Elt F) f1) (M2.view.read (Elt F) f2) (M3.view.read (Elt F) f3)⌝ ∗ pt c M6 g)
              ∗ (∃ g, ⌜M7.view.read (Elt F) g = k0_pay2 (M3.view.read (Elt F) f3) (M4.view.read (Elt F) f4) (M5.view.read (Elt F) f5)⌝ ∗ pt c M7 g)) -∗ Q ⟨⟩))
      ⊢ wp frame (wpE (defs₀ (F := F)) 𝒱₀ c none) E (cc0__argmin_kernel i M1 h1 M2 h2 M3 h3 M4 h4 M5 h5 M6 h6 M7 h7) Q := by
  rw [cc0__argmin_kernel_eq_skeleton]
  unfold cc0__argmin_kernel_skel
  rw [k0_part1_eq_skeleton]
  unfold k0_part1_skel
  rw [dif_pos hi]
  iintro ⟨H1, H2, H3, H4, H5, H6, H7, Hk⟩
  sl_exec!
  sl_step
  iapply Hk
  isplitl [H1]; · iexact H1
  isplitl [H2]; · iexact H2
  isplitl [H3]; · iexact H3
  isplitl [H4]; · iexact H4
  isplitl [H5]; · iexact H5
  isplitl [H6]
  · iexists _
    isplitr; swap; (· iexact H6)
    ipureintro
    unfold body_first.sl.H6_1
    refine (store_full c M6 zero3 _ _ _).trans ?_
    rw [load_full c M1 zero3, load_full c M2 zero2, load_full c M3 zero2]
    unfold idxBlock
    rfl
  · iexists _
    isplitr; swap; (· iexact H7)
    ipureintro
    unfold body_first.sl.H7_1
    refine (store_full c M7 zero2 _ _ _).trans ?_
    rw [load_full c M3 zero2, load_full c M4 zero2, load_full c M5 zero2]
/-- At a later point the body stores the point's row numbers and leaves the table of row sums as it is. -/
theorem body_rest (c : Dev nD) (i : grid0.Coords) (hi : ¬ k0_cond1 i = 1#1)
    (M1 : Memref sig .tc .vmem S2x512x512 .f32) (h1 : M1.IsWhole) (M2 : Memref sig .tc .vmem S1x2048 .f32) (h2 : M2.IsWhole)
    (M3 : Memref sig .tc .vmem S2048x256 .f32) (h3 : M3.IsWhole) (M4 : Memref sig .tc .vmem S256x256 .f32) (h4 : M4.IsWhole)
    (M5 : Memref sig .tc .vmem S1x256 .f32) (h5 : M5.IsWhole) (M6 : Memref sig .tc .vmem S1x1x1024 .i32) (h6 : M6.IsWhole)
    (M7 : Memref sig .tc .vmem S1x2048 .f32) (h7 : M7.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (E : Set ℕ) (Q : PUnit → sProp 𝕄) :
    iprop(pt c M1 f1 ∗ pt c M2 f2 ∗ pt c M3 f3 ∗ pt c M4 f4 ∗ pt c M5 f5 ∗ pt c M6 f6 ∗ pt c M7 f7
        ∗ (iprop(pt c M1 f1 ∗ pt c M2 f2 ∗ pt c M3 f3 ∗ pt c M4 f4 ∗ pt c M5 f5
              ∗ (∃ g, ⌜M6.view.read (Elt F) g = idxBlock (M1.view.read (Elt F) f1) (M2.view.read (Elt F) f2) (M3.view.read (Elt F) f3)⌝ ∗ pt c M6 g)
              ∗ pt c M7 f7) -∗ Q ⟨⟩))
      ⊢ wp frame (wpE (defs₀ (F := F)) 𝒱₀ c none) E (cc0__argmin_kernel i M1 h1 M2 h2 M3 h3 M4 h4 M5 h5 M6 h6 M7 h7) Q := by
  rw [cc0__argmin_kernel_eq_skeleton]
  unfold cc0__argmin_kernel_skel
  rw [k0_part1_eq_skeleton]
  unfold k0_part1_skel
  rw [dif_neg hi]
  iintro ⟨H1, H2, H3, H4, H5, H6, H7, Hk⟩
  sl_exec!
  sl_step
  iapply Hk
  isplitl [H1]; · iexact H1
  isplitl [H2]; · iexact H2
  isplitl [H3]; · iexact H3
  isplitl [H4]; · iexact H4
  isplitl [H5]; · iexact H5
  isplitl [H6]
  · iexists _
    isplitr; swap; (· iexact H6)
    ipureintro
    unfold body_rest.sl.H6_1
    refine (store_full c M6 zero3 _ _ _).trans ?_
    rw [load_full c M1 zero3, load_full c M2 zero2, load_full c M3 zero2]
    unfold idxBlock
    rfl
  · iexact H7

/-- Owning a whole memref at `X` is holding its buffer at some contents that read as `X`. -/
theorem owns_of_whole (c : Dev nD) {sp : Space} {s : Shape} {e : EltTy} (M : Memref sig .tc sp s e) (h : M.IsWhole) (X : s.Idx → Elt F e) :
    (owns (c : Thread nD τ) M fullShare X : sProp 𝕄) = iprop(∃ g : Bf (F := F) c M, ⌜M.view.read (Elt F) g = X⌝ ∗ pt c M g) := by
  unfold owns; rw [h.set_eq_univ]

/-- The same, each buffer owned at what it reads. -/
theorem body_first_owns (c : Dev nD) (i : grid0.Coords) (hi : k0_cond1 i = 1#1)
    (M1 : Memref sig .tc .vmem S2x512x512 .f32) (h1 : M1.IsWhole) (M2 : Memref sig .tc .vmem S1x2048 .f32) (h2 : M2.IsWhole)
    (M3 : Memref sig .tc .vmem S2048x256 .f32) (h3 : M3.IsWhole) (M4 : Memref sig .tc .vmem S256x256 .f32) (h4 : M4.IsWhole)
    (M5 : Memref sig .tc .vmem S1x256 .f32) (h5 : M5.IsWhole) (M6 : Memref sig .tc .vmem S1x1x1024 .i32) (h6 : M6.IsWhole)
    (M7 : Memref sig .tc .vmem S1x2048 .f32) (h7 : M7.IsWhole)
    (X1 : Vec F S2x512x512 .f32) (X2 : Vec F S1x2048 .f32) (X3 : Vec F S2048x256 .f32) (X4 : Vec F S256x256 .f32) (X5 : Vec F S1x256 .f32)
    (X6 : Vec F S1x1x1024 .i32) (X7 : Vec F S1x2048 .f32) (E : Set ℕ) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7
        ∗ (iprop(owns (c : Thread nD τ) M1 fullShare X1 ∗ owns (c : Thread nD τ) M2 fullShare X2 ∗ owns (c : Thread nD τ) M3 fullShare X3
            ∗ owns (c : Thread nD τ) M4 fullShare X4 ∗ owns (c : Thread nD τ) M5 fullShare X5
            ∗ owns (c : Thread nD τ) M6 fullShare (idxBlock X1 X2 X3) ∗ owns (c : Thread nD τ) M7 fullShare (k0_pay2 X3 X4 X5)) -∗ Q ⟨⟩))
      ⊢ wp frame (wpE (defs₀ (F := F)) 𝒱₀ c none) E (cc0__argmin_kernel i M1 h1 M2 h2 M3 h3 M4 h4 M5 h5 M6 h6 M7 h7) Q := by
  simp only [owns_of_whole c M1 h1, owns_of_whole c M2 h2, owns_of_whole c M3 h3, owns_of_whole c M4 h4, owns_of_whole c M5 h5,
    owns_of_whole c M6 h6, owns_of_whole c M7 h7]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  subst e1 e2 e3 e4 e5 e6 e7
  iapply (body_first c i hi M1 h1 M2 h2 M3 h3 M4 h4 M5 h5 M6 h6 M7 h7 f1 f2 f3 f4 f5 f6 f7 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexact H6
  iexact H7

/-- The same, each buffer owned at what it reads. -/
theorem body_rest_owns (c : Dev nD) (i : grid0.Coords) (hi : ¬ k0_cond1 i = 1#1)
    (M1 : Memref sig .tc .vmem S2x512x512 .f32) (h1 : M1.IsWhole) (M2 : Memref sig .tc .vmem S1x2048 .f32) (h2 : M2.IsWhole)
    (M3 : Memref sig .tc .vmem S2048x256 .f32) (h3 : M3.IsWhole) (M4 : Memref sig .tc .vmem S256x256 .f32) (h4 : M4.IsWhole)
    (M5 : Memref sig .tc .vmem S1x256 .f32) (h5 : M5.IsWhole) (M6 : Memref sig .tc .vmem S1x1x1024 .i32) (h6 : M6.IsWhole)
    (M7 : Memref sig .tc .vmem S1x2048 .f32) (h7 : M7.IsWhole)
    (X1 : Vec F S2x512x512 .f32) (X2 : Vec F S1x2048 .f32) (X3 : Vec F S2048x256 .f32) (X4 : Vec F S256x256 .f32) (X5 : Vec F S1x256 .f32)
    (X6 : Vec F S1x1x1024 .i32) (X7 : Vec F S1x2048 .f32) (E : Set ℕ) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7
        ∗ (iprop(owns (c : Thread nD τ) M1 fullShare X1 ∗ owns (c : Thread nD τ) M2 fullShare X2 ∗ owns (c : Thread nD τ) M3 fullShare X3
            ∗ owns (c : Thread nD τ) M4 fullShare X4 ∗ owns (c : Thread nD τ) M5 fullShare X5
            ∗ owns (c : Thread nD τ) M6 fullShare (idxBlock X1 X2 X3) ∗ owns (c : Thread nD τ) M7 fullShare X7) -∗ Q ⟨⟩))
      ⊢ wp frame (wpE (defs₀ (F := F)) 𝒱₀ c none) E (cc0__argmin_kernel i M1 h1 M2 h2 M3 h3 M4 h4 M5 h5 M6 h6 M7 h7) Q := by
  simp only [owns_of_whole c M1 h1, owns_of_whole c M2 h2, owns_of_whole c M3 h3, owns_of_whole c M4 h4, owns_of_whole c M5 h5,
    owns_of_whole c M6 h6, owns_of_whole c M7 h7]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  subst e1 e2 e3 e4 e5 e6 e7
  iapply (body_rest c i hi M1 h1 M2 h2 M3 h3 M4 h4 M5 h5 M6 h6 M7 h7 f1 f2 f3 f4 f5 f6 f7 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexact H6
  iexists f7; isplitr; (· ipureintro; rfl); iexact H7

end Cert.Proof

end
-- ==== Proof.Pick.lean ====
/-
  The row numbers of one grid point, opened: the distances, their least value per row, the lanes that attain it, and the first of them.
  Over the bit-exact floats the number is always below the number of rows of the table, whatever the distances are.
-/
module

public import proofs.«01_k».proof.Proof.Body
public import Idealize.ShloMosaic.Lib.F32MinMember
public import Idealize.ShloMosaic.Lib.Pointwise.Index
public import Idealize.ShloMosaic.Lib.Pointwise.Reduce
public import Idealize.ShloMosaic.PureOps.BitExact.Laws

@[expose] public section

noncomputable section

namespace Cert.Proof

open Cert.KernelIdeal Cert.KernelIdeal.Gen
open Idealize.ShloMosaic

variable {F : FTy → Type} [FloatOps F]

/-- The squared norms of the rows of a point: the eight partial sums of each row folded to one. -/
def normsOf (v47 : FVec F S1024x8 .f32) (v48 : FVec F S1024x4 .f32) : FVec F S1024x1 .f32 :=
  have v49 : FVec F S1024x4 .f32 := extractStridedSlice S1024x4 ![0, 4] v47 slices_S1024x8_o0_4_S1024x4
  have v50 : FVec F S1024x4 .f32 := addf v48 v49
  have v51 : FVec F S1024x2 .f32 := extractStridedSlice S1024x2 ![0, 0] v50 slices_S1024x4_o0_0_S1024x2
  have v52 : FVec F S1024x2 .f32 := extractStridedSlice S1024x2 ![0, 2] v50 slices_S1024x4_o0_2_S1024x2
  have v53 : FVec F S1024x2 .f32 := addf v51 v52
  have v54 : FVec F S1024x1 .f32 := extractStridedSlice S1024x1 ![0, 0] v53 slices_S1024x2_o0_0_S1024x1
  have v55 : FVec F S1024x1 .f32 := extractStridedSlice S1024x1 ![0, 1] v53 slices_S1024x2_o0_1_S1024x1
  addf v54 v55

/-- The distances of a point's rows from the rows of the table. -/
def distsOf (v12 : FVec F S1024x2048 .f32) (n : FVec F S1024x1 .f32) (c2 : Vec F S1x2048 .f32) : FVec F S1024x2048 .f32 :=
  addf (subf (broadcastTo S1024x2048 n broadcasts_S1024x1_S1024x2048) (mulf (broadcast S1024x2048 (Scalar.ofBits .f32 0x40000000#32)) v12))
    (broadcastTo S1024x2048 (shapeCast S1x2048 (shapeCast S2048 c2 shapeCasts_S1x2048_S2048) shapeCasts_S2048_S1x2048) broadcasts_S1x2048_S1024x2048)

/-- The least entry of every row. -/
def leastOf (D : FVec F S1024x2048 .f32) : FVec F S1024 .f32 :=
  multiReduction .minimumf [1] S1024 D 0x7F800000#32 reduces_S1024x2048_S1024 (.inl rfl) rfl

/-- The lane's number where the entry is its row's least, 2047 elsewhere. -/
def lanesOf (D : FVec F S1024x2048 .f32) : FVec F S1024x2048 .f32 :=
  select (cmpf .oeq D (broadcastTo S1024x2048 (shapeCast S1024x1 (leastOf D) shapeCasts_S1024_S1024x1) broadcasts_S1024x1_S1024x2048))
    (sitofp .f32 (iota .tc S1024x2048 32 [1] iota_S1024x2048_d1_w32)) (broadcast S1024x2048 (Scalar.ofBits .f32 0x44FFE000#32))

/-- A point's row numbers: per row the least lane number, converted to an integer. -/
theorem pay1_eq (v12 : FVec F S1024x2048 .f32) (v47 : FVec F S1024x8 .f32) (v48 : FVec F S1024x4 .f32) (v61 : Vec F S1x2048 .f32) :
    k0_pay1 v12 v47 v48 v61
      = shapeCast S1x1x1024 (fptosi 32 (leastOf (lanesOf (distsOf v12 (normsOf v47 v48) v61)))) shapeCasts_S1024_S1x1x1024 := rfl

/-- A lane's value is its number or 2047. -/
theorem lanes_cases (D : FVec F S1024x2048 .f32) (i : S1024x2048.Idx) :
    lanesOf D i = FloatOps.sitofp .f32 (BitVec.ofNat 32 (i 1).val) ∨ lanesOf D i = FloatOps.ofBits .f32 0x44FFE000#32 := by
  have e : (iota .tc S1024x2048 32 [1] iota_S1024x2048_d1_w32 : IVec S1024x2048 32) i = BitVec.ofNat 32 (i 1).val := by
    simp only [iota, List.foldl_cons, List.foldl_nil, Nat.zero_mul, Nat.zero_add]
  rw [← e]
  unfold lanesOf select Scalar.select
  dsimp only
  split
  · exact Or.inl rfl
  · exact Or.inr rfl

/-- A row's least entry is the fold of the minimum over the row's lanes. -/
theorem leastOf_fold [Std.Commutative (FloatOps.minimumf (F := F) (φ := .f32))] [Std.Associative (FloatOps.minimumf (F := F) (φ := .f32))]
    (D : FVec F S1024x2048 .f32) (r : Fin 1024) :
    leastOf D (ix1 r) = (Finset.univ : Finset (Fin 2048)).fold FloatOps.minimumf (FloatOps.ofBits .f32 0x7F800000#32) fun k => D (ix2 r k) :=
  (multiReduction_minimumf_eq_fold D 0x7F800000#32 reduces_S1024x2048_S1024 (.inl rfl) rfl (ix1 r)).trans
    (Shape.Reduces.fold_fiber_r2_a1 reduces_S1024x2048_S1024 (ix1 r) _ _ D)

/-- Over the bit-exact floats a row's least lane is a number below 2048. -/
theorem leastLane_bits (D : FVec Bits S1024x2048 .f32) (r : Fin 1024) : ∃ n : ℕ, n < 2048 ∧ leastOf (lanesOf D) (ix1 r) = Bits.f32OfNat n := by
  have hl (i : S1024x2048.Idx) : ∃ n : ℕ, n < 2048 ∧ lanesOf D i = Bits.f32OfNat n := by
    rcases lanes_cases D i with h | h
    · have hi : (i 1).val < 2048 := (i 1).isLt
      exact ⟨(i 1).val, hi, h.trans (Bits.sitofp32_ofNat (n := (i 1).val) (lt_trans hi (by decide)))⟩
    · refine ⟨2047, by decide, h.trans ?_⟩
      rw [Bits.f32OfNat_eq 2047 (by decide)]
      decide +kernel
  rw [leastOf_fold]
  obtain ⟨k, -, hk⟩ := Bits.fold_minimumf_positiveInfinity_mem (Finset.univ : Finset (Fin 2048)) Finset.univ_nonempty
    (fun k => lanesOf D (ix2 r k)) fun k _ => by
      obtain ⟨n, hn, e⟩ := hl (ix2 r k)
      refine Or.inl ⟨n, by simp; omega, ?_⟩
      rw [e, Bits.f32OfNat_eq n (by omega)]
  obtain ⟨n, hn, e⟩ := hl (ix2 r k)
  exact ⟨n, hn, hk.trans e⟩

/-- Over the bit-exact floats every row number names a row of the table. -/
theorem idxBlock_bits (x : Vec Bits S2x512x512 .f32) (c2 : Vec Bits S1x2048 .f32) (cb : Vec Bits S2048x256 .f32) (j : S1x1x1024.Idx) :
    (idxBlock x c2 cb j).toNat < 2048 := by
  unfold idxBlock
  rw [pay1_eq]
  obtain ⟨n, hn, e⟩ := leastLane_bits (distsOf (k0_pay4 x cb) (normsOf (k0_pay5 x) (k0_pay6 x)) c2)
    (Shape.reshapeEquiv shapeCasts_S1024_S1x1x1024 j 0)
  rw [← eq_ix1 (n0 := 1024) (Shape.reshapeEquiv shapeCasts_S1024_S1x1x1024 j)] at e
  show (Bits.fptosi32 32 (leastOf (lanesOf (distsOf (k0_pay4 x cb) (normsOf (k0_pay5 x) (k0_pay6 x)) c2))
    (Shape.reshapeEquiv shapeCasts_S1024_S1x1x1024 j))).toNat < 2048
  rw [e, Bits.fptosi32_nat n (by omega), BitVec.toNat_ofNat]
  omega

end Cert.Proof

end
-- ==== Proof.First.lean ====
/-
  Over the extended reals the row number of a row of distances is the first place where the row is least, whatever the distances are.
-/
module

public import proofs.«01_k».proof.Proof.Pick
public import Idealize.ShloMosaic.Lib.Pointwise

@[expose] public section

noncomputable section

namespace Cert.Proof

open Cert.KernelIdeal Cert.KernelIdeal.Gen
open Idealize.ShloMosaic

/-- `n` is the first place at which `g` is least. -/
def IsFirst (g : Fin 2048 → EReal) (n : Fin 2048) : Prop := (∀ k, g n ≤ g k) ∧ ∀ k, g k ≤ g n → n ≤ k

/-- Every row has a first least place. -/
theorem exists_first (g : Fin 2048 → EReal) : ∃ n, IsFirst g n := by
  obtain ⟨a, -, ha⟩ := Finset.exists_min_image Finset.univ g ⟨0, Finset.mem_univ _⟩
  have hne : (Finset.univ.filter fun k => g k ≤ g a).Nonempty := ⟨a, by simp⟩
  have hmem := Finset.min'_mem _ hne
  rw [Finset.mem_filter] at hmem
  refine ⟨_, fun k => hmem.2.trans (ha k (Finset.mem_univ _)), fun k hk => Finset.min'_le _ _ ?_⟩
  rw [Finset.mem_filter]
  exact ⟨Finset.mem_univ _, hk.trans hmem.2⟩

/-- The first least place of a row. -/
def first (g : Fin 2048 → EReal) : Fin 2048 := (exists_first g).choose

theorem first_spec (g : Fin 2048 → EReal) : IsFirst g (first g) := (exists_first g).choose_spec

/-- The fold of the minimum over a row is the value at a least place. -/
theorem fold_least (g : Fin 2048 → EReal) (n : Fin 2048) (h : ∀ k, g n ≤ g k) : (Finset.univ : Finset (Fin 2048)).fold min ⊤ g = g n :=
  le_antisymm ((Finset.fold_min_le _).2 (Or.inr ⟨n, Finset.mem_univ _, le_rfl⟩)) ((Finset.le_fold_min _).2 ⟨le_top, fun k _ => h k⟩)

theorem ofBits_top : Ideal.ofBits .f32 0x7F800000#32 = ⊤ := by simp [Ideal.ofBits, Ideal.ieee]

theorem ofBits_last : Ideal.ofBits .f32 0x44FFE000#32 = ((2047 : ℝ) : EReal) := by
  simp [Ideal.ofBits, Ideal.ieee, -EReal.coe_mul]; norm_num

/-- A row's least entry over the extended reals. -/
theorem leastOf_ideal (D : FVec Ideal S1024x2048 .f32) (r : Fin 1024) (n : Fin 2048) (h : ∀ k, D (ix2 r n) ≤ D (ix2 r k)) :
    leastOf D (ix1 r) = D (ix2 r n) := by
  rw [leastOf_fold]
  show (Finset.univ : Finset (Fin 2048)).fold min (Ideal.ofBits .f32 0x7F800000#32) _ = _
  rw [ofBits_top]
  exact fold_least (fun k => D (ix2 r k)) n h

/-- A lane's value over the extended reals. -/
theorem lanesOf_ideal (D : FVec Ideal S1024x2048 .f32) (r : Fin 1024) (k : Fin 2048) :
    lanesOf D (ix2 r k) = if D (ix2 r k) = leastOf D (ix1 r) then (((k.val : ℕ) : ℝ) : EReal) else ((2047 : ℝ) : EReal) := by
  have e : (iota .tc S1024x2048 32 [1] iota_S1024x2048_d1_w32 : IVec S1024x2048 32) (ix2 r k) = BitVec.ofNat 32 k.val := by
    simp only [iota, List.foldl_cons, List.foldl_nil, Nat.zero_mul, Nat.zero_add]
    rfl
  have hk : ((BitVec.ofNat 32 k.val).toInt : ℝ) = ((k.val : ℕ) : ℝ) := by
    have := k.isLt
    rw [BitVec.toInt_eq_toNat_of_lt (by rw [BitVec.toNat_ofNat]; omega), BitVec.toNat_ofNat, Nat.mod_eq_of_lt (by omega)]
    norm_cast
  have hb : broadcastTo S1024x2048 (shapeCast S1024x1 (leastOf D) shapeCasts_S1024_S1024x1) broadcasts_S1024x1_S1024x2048 (ix2 r k) = leastOf D (ix1 r) := by
    pointwise []
  unfold lanesOf
  show Scalar.select (Ideal.cmp .oeq (D (ix2 r k)) _) ((((iota .tc S1024x2048 32 [1] iota_S1024x2048_d1_w32 : IVec S1024x2048 32) (ix2 r k)).toInt : ℝ) : EReal) (Ideal.ofBits .f32 0x44FFE000#32) = _
  rw [e, hk, hb, ofBits_last, Ideal.cmp_oeq, Scalar.select_decide]

/-- The least lane of a row is its first least place. -/
theorem leastLane_ideal (D : FVec Ideal S1024x2048 .f32) (r : Fin 1024) :
    leastOf (lanesOf D) (ix1 r) = ((((first fun k => D (ix2 r k)).val : ℕ) : ℝ) : EReal) := by
  obtain ⟨hl, hf⟩ := first_spec fun k => D (ix2 r k)
  have hm := leastOf_ideal D r _ hl
  have hn : lanesOf D (ix2 r (first fun k => D (ix2 r k))) = ((((first fun k => D (ix2 r k)).val : ℕ) : ℝ) : EReal) := by
    rw [lanesOf_ideal, hm, if_pos rfl]
  rw [← hn]
  refine leastOf_ideal (lanesOf D) r _ fun k => ?_
  rw [hn, lanesOf_ideal, hm]
  split
  · rename_i h
    have := hf k h.le
    exact EReal.coe_le_coe_iff.2 (by exact_mod_cast this)
  · have := (first fun k => D (ix2 r k)).isLt
    refine EReal.coe_le_coe_iff.2 ?_
    have h : ((first fun k => D (ix2 r k)).val : ℝ) ≤ ((2047 : ℕ) : ℝ) := by exact_mod_cast (by omega)
    simpa using h

/-- A natural number below 2048 converted to a word. -/
theorem fptosi_nat (n : ℕ) (h : n < 2048) : Ideal.fptosi 32 (((n : ℕ) : ℝ) : EReal) = BitVec.ofNat 32 n := by
  have h0 : (0 : ℝ) ≤ (n : ℝ) := Nat.cast_nonneg n
  unfold Ideal.fptosi
  rw [Ideal.toIntClamped_coe, if_pos h0, Int.floor_natCast]
  have : max (-((2 ^ (32 - 1) : ℕ) : ℤ)) (min (((2 ^ (32 - 1) : ℕ) : ℤ) - 1) (n : ℤ)) = (n : ℤ) := by
    norm_num
    omega
  rw [this, BitVec.ofInt_natCast]

/-- A vector of a block's rows read under the block's leading axes. -/
theorem cast_row {α : Type} (v : S1024.Idx → α) (r : Fin 1024) : shapeCast S1x1x1024 v shapeCasts_S1024_S1x1x1024 (ix3 0 0 r) = v (ix1 r) := by
  pointwise []

theorem fptosi_row (v : FVec Ideal S1024 .f32) (i : S1024.Idx) : fptosi 32 v i = Ideal.fptosi 32 (v i) := rfl

/-- The row number of a row of a block: the first least place of its distances. -/
theorem idxBlock_ideal (x : Vec Ideal S2x512x512 .f32) (c2 : Vec Ideal S1x2048 .f32) (cb : Vec Ideal S2048x256 .f32) (r : Fin 1024) :
    idxBlock x c2 cb (ix3 0 0 r)
      = BitVec.ofNat 32 (first fun k => distsOf (k0_pay4 x cb) (normsOf (k0_pay5 x) (k0_pay6 x)) c2 (ix2 r k)).val := by
  unfold idxBlock
  rw [pay1_eq]
  rw [cast_row, fptosi_row, leastLane_ideal, fptosi_nat _ (Fin.isLt _)]

/-- Over the extended reals every row number names a row of the table. -/
theorem idxBlock_ideal_lt (x : Vec Ideal S2x512x512 .f32) (c2 : Vec Ideal S1x2048 .f32) (cb : Vec Ideal S2048x256 .f32) (j : S1x1x1024.Idx) :
    (idxBlock x c2 cb j).toNat < 2048 := by
  obtain ⟨r, rfl⟩ : ∃ r : Fin 1024, (ix3 0 0 r : S1x1x1024.Idx) = j := by
    refine ⟨j 2, Eq.trans ?_ (eq_ix3 (n0 := 1) (n1 := 1) (n2 := 1024) j).symm⟩
    exact congrArg₂ (fun a b : Fin 1 => (ix3 a b (j 2) : S1x1x1024.Idx)) (Subsingleton.elim _ _) (Subsingleton.elim _ _)
  refine lt_of_eq_of_lt (congrArg BitVec.toNat (idxBlock_ideal x c2 cb r)) ?_
  rw [BitVec.toNat_ofNat]
  exact lt_of_le_of_lt (Nat.mod_le _ _) (Fin.isLt _)

end Cert.Proof

end
-- ==== Proof.Region.lean ====
/-
  The TensorCore call as one region of the program: from every buffer at a valuation it runs the pipeline's eight grid
  points and leaves the list of row numbers and the table of row sums, the other buffers as they were.
-/
module

public import proofs.«01_k».proof.Proof.Body
public import Idealize.ShloMosaic.Lib.Pipeline.RegionsLoop
public import Idealize.ShloMosaic.Lib.Pipeline.Frame

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- What the core owes while the TensorCore call runs: its start signals of the SparseCore call to come. -/
abbrev dueTc (c : Dev nD) : CellTallies nD τ sig (HIx 1) := (K (F := F)).Otc c 0

/-- No signal of the TensorCore is owed at the kernels' own index. -/
theorem dueTc_none (c : Dev nD) (g : GSem nD τ sig) : dueTc (F := F) c g none = 0 := by
  unfold dueTc SparseCore.Cfg.Otc
  have h (cell : GSem nD τ sig) (q : Fin 1) : (tallyAt cell (some q) 1 : CellTallies nD τ sig (HIx 1)) g none = 0 := by
    unfold tallyAt
    by_cases e : g = cell
    · subst e; rw [tallyOn_self]; simp
    · rw [tallyOn_ne e]; rfl
  simp only [Finset.univ_unique, Finset.sum_singleton, Fin.val_eq_zero, le_refl, if_true]
  rw [Finset.sum_apply, Finsupp.finset_sum_apply]
  exact Finset.sum_eq_zero fun _ _ => h _ _

/-- The bound on the waits the core has recorded when the TensorCore call begins. -/
def lowWaits (c : Dev nD) : Set (SemLoc sig × HIx 1) := {p | (K (F := F)).lev ((T c), p.1) p.2 ≤ 8 * (SparseCore.Cfg.Blocks.one 1).fst 0}

variable (Va : (c : Dev nD) → (b : Ref sig .tc) → Buf (Elt F) ((c : Thread nD τ).loc b))

/-- The block of window `w`'s array at point `t`. -/
abbrev blkA (c : Dev nD) (w : Fin cfg0.W) (t : Fin cfg0.N) : ((cfg0.win w).xblock (cfg0.grid.coords t)).Idx → Elt F (cfg0.win w).elt :=
  ((cfg0.win w).blk t).view.read (Elt F) (Va c (Pipeline.arrRef spec0 w))

/-- The proof data of the call: the arrays at the entry contents; after a point the inputs as fetched, the row numbers
    of the point's block, and the table of row sums. -/
def dat (c : Dev nD) : Dat τ (Elt F) (HIx 1) ℕ UU ℕ cfg0 c where
  A w := Va c (Pipeline.arrRef spec0 w)
  after w t := match w with
    | ⟨0, _⟩ => blkA Va c 0 t
    | ⟨1, _⟩ => blkA Va c 1 t
    | ⟨2, _⟩ => blkA Va c 2 t
    | ⟨3, _⟩ => blkA Va c 3 t
    | ⟨4, _⟩ => blkA Va c 4 t
    | ⟨5, _⟩ => idxBlock (blkA Va c 0 t) (blkA Va c 1 t) (blkA Va c 2 t)
    | ⟨6, _⟩ => k0_pay2 (blkA Va c 2 t0_0) (blkA Va c 3 t0_0) (blkA Va c 4 t0_0)
  Φ _ := BI.emp
  q _ := fullShare
  owed _ := dueTc (F := F) c
  recorded _ := lowWaits (F := F) c

/-- At every point a fetched window's buffer holds its array's block. -/
theorem before0 (c : Dev nD) (t : Fin cfg0.N) (d) : (dat Va c).before 0 t d = blkA Va c 0 t :=
  (dat Va c).before_in_eq_fetched 0 rfl (fun _ => rfl) (fun _ _ _ => rfl) (fun _ => rfl) t d
theorem before1 (c : Dev nD) (t : Fin cfg0.N) (d) : (dat Va c).before 1 t d = blkA Va c 1 t :=
  (dat Va c).before_in_eq_fetched 1 rfl (fun _ => rfl) (fun _ _ _ => rfl) (fun _ => rfl) t d
theorem before2 (c : Dev nD) (t : Fin cfg0.N) (d) : (dat Va c).before 2 t d = blkA Va c 2 t :=
  (dat Va c).before_in_eq_fetched 2 rfl (fun _ => rfl) (fun _ _ _ => rfl) (fun _ => rfl) t d
theorem before3 (c : Dev nD) (t : Fin cfg0.N) (d) : (dat Va c).before 3 t d = blkA Va c 3 t :=
  (dat Va c).before_in_eq_fetched 3 rfl (fun _ => rfl) (fun _ _ _ => rfl) (fun _ => rfl) t d
theorem before4 (c : Dev nD) (t : Fin cfg0.N) (d) : (dat Va c).before 4 t d = blkA Va c 4 t :=
  (dat Va c).before_in_eq_fetched 4 rfl (fun _ => rfl) (fun _ _ _ => rfl) (fun _ => rfl) t d

/-- Only the first point stores the table of row sums. -/
theorem cond_iff : ∀ t : Fin cfg0.N, k0_cond1 (cfg0.grid.coords t) = 1#1 ↔ t.val = 0 :=
  (by decide +kernel : ∀ t : Fin grid0.N, k0_cond1 (grid0.coords t) = 1#1 ↔ t.val = 0)
theorem idle6 : ∀ t : Fin cfg0.N, cfg0.idle 6 (cfg0.grid.coords t) = !decide (t.val = 0) :=
  (by decide +kernel : ∀ t : Fin grid0.N, idle0 6 (grid0.coords t) = !decide (t.val = 0))
theorem fresh6 : ∀ t : Fin cfg0.N, cfg0.fresh 6 t.val = decide (t.val = 0) :=
  (by decide +kernel : ∀ t : Fin grid0.N, cfg0.fresh 6 t.val = decide (t.val = 0))

/-- At a later point the row-sum buffer still holds the table. -/
theorem before6 (c : Dev nD) (t : Fin cfg0.N) (ht : t.val ≠ 0) (d) : (dat Va c).before 6 t d = (dat Va c).after 6 t := by
  rw [(dat Va c).before_out_traj 6 rfl (fun _ _ => rfl) (fun _ _ _ _ => rfl) t.val t rfl d, fresh6 t, decide_eq_false ht]
  rfl

/-- The body at every point: from the fetched blocks to the row numbers, and at the first point the table. -/
theorem body_obligation (c : Dev nD) : BodyObligation (dat Va c) (defs₀ (F := F)) 𝒱₀ none Set.univ := fun t => by
  rw [bigSep_W0, bigSep_W0]
  dsimp only
  rw [show (dat Va c).Φ t.castSucc = BI.emp from rfl, show (dat Va c).Φ t.succ = BI.emp from rfl,
    show (dat Va c).owesAt none t.succ = (dat Va c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before0, before1, before2, before3, before4]
  by_cases ht : t.val = 0
  · obtain rfl : t = t0_0 := Fin.ext ht
    iapply (body_first_owns c (grid0.coords t0_0) ((cond_iff t0_0).mpr rfl) (st0_0 t0_0) _ (st0_1 t0_0) _ (st0_2 t0_0) _ (st0_3 t0_0) _
      (st0_4 t0_0) _ (st0_5 t0_0) _ (st0_6 t0_0) _ (blkA Va c 0 t0_0) (blkA Va c 1 t0_0) (blkA Va c 2 t0_0) (blkA Va c 3 t0_0) (blkA Va c 4 t0_0)
      ((dat Va c).before 5 t0_0 d5) ((dat Va c).before 6 t0_0 d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Howes]; · iexact Howes
    isplitl [H0]; · iexact H0
    isplitl [H1]; · iexact H1
    isplitl [H2]; · iexact H2
    isplitl [H3]; · iexact H3
    isplitl [H4]; · iexact H4
    isplitl [H5]; · iexact H5
    rw [show idle0 6 (grid0.coords t0_0) = false from idle6 t0_0]
    iexact H6
  · iapply (body_rest_owns c (grid0.coords t) (fun h => ht ((cond_iff t).mp h)) (st0_0 t) _ (st0_1 t) _ (st0_2 t) _ (st0_3 t) _
      (st0_4 t) _ (st0_5 t) _ (st0_6 t) _ (blkA Va c 0 t) (blkA Va c 1 t) (blkA Va c 2 t) (blkA Va c 3 t) (blkA Va c 4 t)
      ((dat Va c).before 5 t d5) ((dat Va c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Howes]; · iexact Howes
    isplitl [H0]; · iexact H0
    isplitl [H1]; · iexact H1
    isplitl [H2]; · iexact H2
    isplitl [H3]; · iexact H3
    isplitl [H4]; · iexact H4
    isplitl [H5]; · iexact H5
    rw [show idle0 6 (grid0.coords t) = true from (idle6 t).trans (by rw [decide_eq_false ht]; rfl)]
    dsimp only
    cases hfl : (win0 6).flush t
    · iexists d6; iexact H6
    · rw [before6 Va c t ht]
      iexact H6

/-! ## The region -/

/-- The call's tables: it prefetches none. -/
abbrev adm : (p : Fin 1) → (pcfgs (F := F) p).Adm := fun p => (cfgs p).toPCfg_adm

/-- The proof data of the program's one TensorCore call. -/
def pdats : (p : Fin 1) → (c : Dev nD) → Dat τ (Elt F) (HIx 1) ℕ UU ℕ (Pipeline.pin (pcfgs (F := F)) adm p) c
  | ⟨0, _⟩ => fun c => dat Va c

/-- The list of row numbers and the table of row sums after the call. -/
def idxArr (c : Dev nD) : Buf (Elt F) ((c : Thread nD τ).loc main_v5_0) := (dat Va c).arrAt 5 cfg0.N
def sumArr (c : Dev nD) : Buf (Elt F) ((c : Thread nD τ).loc main_v5_1) := (dat Va c).arrAt 6 cfg0.N

variable (Vp : (c : Dev nD) → (b : Ref sig .tc) → Buf (Elt F) ((c : Thread nD τ).loc b))

set_option backward.isDefEq.respectTransparency.types false in
/-- The region: entered with every unscoped buffer at `Va` and left with the call's two results written, the others
    unchanged; the core's debts stand throughout. -/
def reg (hi : ∀ c, Vp c main_v5_0 = idxArr Va c) (hs : ∀ c, Vp c main_v5_1 = sumArr Va c)
    (hne : ∀ c (b : Ref sig .tc), b ≠ main_v5_0 → b ≠ main_v5_1 → Vp c b = Va c b) :
    Pipeline.RegionSeg (pcfgs (F := F)) adm (pdats Va) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation Va c).loose
  hwaits c := Pipeline.cellsWaits_intro _ _ _ 0 c fun w s t => (K (F := F)).mayWait_none _ (dueTc_none c)
  pre c := iprop(unscopedBufs c (Va c) ∗ ∃ W, ⌜(K (F := F)).WBelow (T c) W (8 * (SparseCore.Cfg.Blocks.one 1).fst 0)⌝ ∗ owes (T c) (dueTc (F := F) c) W)
  post c := iprop(unscopedBufs c (Vp c) ∗ ∃ W, ⌜(K (F := F)).WBelow (T c) W (8 * (SparseCore.Cfg.Blocks.one 1).fst 0)⌝ ∗ owes (T c) (dueTc (F := F) c) W)
  X _ := BI.emp
  Y _ := BI.emp
  Z c := Pipeline.unscopedRest (Ix := HIx 1) (Name := ℕ) (U := UU) (Lvl := ℕ) spec0 c (Va c)
  hentry c := by
    rw [Pipeline.ownSems0_none]
    have hsplit := Pipeline.arrays_of_unscopedBufs (p := 0) (pcfgs (F := F)) adm (pdats Va) (launch0).win (launch0).arr_whole c
      ((pdats Va 0 c).share_full fun _ => rfl) (Va c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats Va 0 c).Φ 0 = BI.emp from rfl]
    iintro -
    iempintro
  hout c := by
    rw [Pipeline.ownSems0_none, show (pdats Va 0 c).Φ (Fin.last _) = BI.emp from rfl]
    show _ ⊢ iprop(_ ∗ _ ∗ Pipeline.scopedRest spec0 c)
    rw [scopedRest0_eq]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) (launch0).win (launch0).arr_whole c
      (pdats Va) ((pdats Va 0 c).share_full fun _ => rfl) (Va c) (Vp c) ((pdats Va 0 c).arrAt · cfg0.N)
      (fun w => by
        fin_cases w
        · exact ((dat Va c).arrAt_in 0 rfl _).trans (hne c main_v3 (by decide) (by decide)).symm
        · exact ((dat Va c).arrAt_in 1 rfl _).trans (hne c main_v4 (by decide) (by decide)).symm
        · exact ((dat Va c).arrAt_in 2 rfl _).trans (hne c main_arg2 (by decide) (by decide)).symm
        · exact ((dat Va c).arrAt_in 3 rfl _).trans (hne c main_arg3 (by decide) (by decide)).symm
        · exact ((dat Va c).arrAt_in 4 rfl _).trans (hne c main_v2 (by decide) (by decide)).symm
        · exact (hi c).symm
        · exact (hs c).symm)
      (fun b hb => hne c b (fun h => hb (h ▸ Finset.mem_image.mpr ⟨5, Finset.mem_univ _, rfl⟩))
        (fun h => hb (h ▸ Finset.mem_image.mpr ⟨6, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; swap; (· iexact HO)
    ipureintro
    intro p hp
    rcases hW hp with h | ⟨w, s, h⟩
    · exact h
    · subst h; exact Nat.zero_le _

end Cert.Proof

end
-- ==== Proof.GatherBatch.lean ====
/-
  Several indirect gathers outstanding on ONE semaphore.

  The tile issues two gathers on a semaphore before it waits for either. Each gather is a stream of row copies of equal
  credit, so the two together are one batch of row copies of the counted batches (`Transfers.Batch`): the first gather is
  the batch's first rows, the second the rows after them. The wait that covers only the first gather's credit learns
  nothing about any row; the wait that brings the units consumed to the whole batch's hands every row back.
-/
module

public import Idealize.ShloMosaic.Lib.SparseCore.Stream
public import Idealize.ShloMosaic.Lib.Batch
public import Idealize.ShloMosaic.Lib.Tactic

@[expose] public section

noncomputable section

namespace Cert.Proof.GatherBatch

open Idealize.ShloMosaic Idealize.ShloMosaic.SparseCore
open Idealize.SL Idealize.SL.RA Idealize.SL.BI
open scoped Idealize.SL.BI
open Idealize.SL.BI.BIBase Idealize.SL.BI.Laws Idealize.SL.ProofMode Idealize.SL.Sem

/-! ## A run of consecutive members of a family -/

section Runs

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- The members from `j` on are the next `o` of them and those from `j + o` on. -/
theorem pending_run {n : ℕ} (Φ : Fin n → sProp 𝕄) (j o : ℕ) (h : j + o ≤ n) :
    bigSep (Transfers.pending j) Φ
      = iprop((bigSep Finset.univ fun k : Fin o => Φ ⟨j + k.val, by omega⟩) ∗ bigSep (Transfers.pending (j + o)) Φ) := by
  induction o generalizing j with
  | zero =>
    rw [show (Finset.univ : Finset (Fin 0)) = ∅ from rfl, bigSep_empty]
    exact BI.Entails.antisymm (emp_sep.2) (emp_sep.1)
  | succ o ih =>
    have e : (fun k : Fin o => Φ ⟨j + 1 + k.val, by omega⟩) = fun k : Fin o => Φ ⟨j + k.succ.val, by have := k.isLt; simp only [Fin.val_succ]; omega⟩ := by
      funext k; congr 1; apply Fin.ext; simp only [Fin.val_succ]; omega
    have e' : bigSep (Transfers.pending (j + 1 + o)) Φ = bigSep (Transfers.pending (j + (o + 1))) Φ := by
      congr 2; omega
    rw [Transfers.bigSep_pending_step Φ j (by omega), ih (j + 1) (by omega), bigSep_univ_succ, e, e']
    have e0 : Φ ⟨j + (0 : Fin (o + 1)).val, by omega⟩ = Φ ⟨j, by omega⟩ := by congr 1
    rw [e0]
    exact BI.Entails.antisymm (Idealize.SL.BI.sep_assoc') (Idealize.SL.BI.sep_assoc)

/-- A family over `Fin n` is its first `o` members and the `o'` after them, where that is all of it. -/
theorem bigSep_two_runs {n : ℕ} (Φ : Fin n → sProp 𝕄) (o o' : ℕ) (h : o + o' = n) :
    bigSep Finset.univ Φ
      ⊢ iprop((bigSep Finset.univ fun k : Fin o => Φ ⟨0 + k.val, by omega⟩) ∗ bigSep Finset.univ fun k : Fin o' => Φ ⟨o + k.val, by omega⟩) := by
  have e : bigSep (Transfers.pending (0 + o)) Φ = bigSep (Transfers.pending o) Φ := by congr 2; omega
  rw [Transfers.bigSep_pending_zero, pending_run Φ 0 o (by omega), e, pending_run Φ o o' (by omega)]
  iintro ⟨H1, H2, -⟩
  isplitl [H1] <;> iassumption

/-- Two families, the second after the first: what a batch of two gathers delivers, copy by copy. -/
def two {o o' : ℕ} (Φ : Fin o → sProp 𝕄) (Ψ : Fin o' → sProp 𝕄) (t : Fin (o + o')) : sProp 𝕄 :=
  if h : t.val < o then Φ ⟨t.val, h⟩ else Ψ ⟨t.val - o, by omega⟩

theorem two_lo {o o' : ℕ} (Φ : Fin o → sProp 𝕄) (Ψ : Fin o' → sProp 𝕄) (i : Fin o) (h : 0 + i.val < o + o') :
    two Φ Ψ ⟨0 + i.val, h⟩ = Φ i := by
  unfold two
  rw [dif_pos (by simp only [Nat.zero_add]; exact i.isLt)]
  congr 1; apply Fin.ext; simp

theorem two_hi {o o' : ℕ} (Φ : Fin o → sProp 𝕄) (Ψ : Fin o' → sProp 𝕄) (i : Fin o') (h : o + i.val < o + o') :
    two Φ Ψ ⟨o + i.val, h⟩ = Ψ i := by
  unfold two
  rw [dif_neg (by simp)]
  congr 1; apply Fin.ext; simp

instance two_storable {o o' : ℕ} (Φ : Fin o → sProp 𝕄) (Ψ : Fin o' → sProp 𝕄) [∀ i, Storable (upEmb : UEmb _ 𝕄) (Φ i)]
    [∀ i, Storable (upEmb : UEmb _ 𝕄) (Ψ i)] (t : Fin (o + o')) : Storable (upEmb : UEmb _ 𝕄) (two Φ Ψ t) := by
  unfold two; split <;> infer_instance

/-- The two families together are the first's members and the second's. -/
theorem bigSep_two {o o' : ℕ} (Φ : Fin o → sProp 𝕄) (Ψ : Fin o' → sProp 𝕄) :
    bigSep Finset.univ (two Φ Ψ) ⊢ iprop(bigSep Finset.univ Φ ∗ bigSep Finset.univ Ψ) := by
  refine (bigSep_two_runs (two Φ Ψ) o o' rfl).trans ?_
  simp only [two_lo, two_hi]
  exact Entails.refl _

end Runs

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-! ## What one row of a gather delivers -/

section Row

variable (src : Memref sig c.2.kind sp s₀ e) (dst : Memref sig c.2.kind .vmem s e) (hg : s₀.Gathers a s)
  (offs : Memref sig c.2.kind .vmem si .i32) (hn : si.numel = s.size hg.axis') (hs : 0 < s.numel)
  (q qo : PosShare TreeShare) (fs : Buf (Elt F) (src.view.loc c)) (fd : Buf (Elt F) (dst.view.loc c)) (fo : Buf (Elt F) (offs.view.loc c))
  (hin : ∀ x, (offs.view.read (Elt F) fo x).toNat < s₀.size hg.axis)

/-- The row copy `j` hands back: row `j` of the destination written with the source's row the list names there, that
    entry of the list, and its piece of the source's share. -/
def rowBack (j : Fin (s.size hg.axis')) : sProp 𝕄 :=
  iprop(((dst.view.loc c ↦[(dst.view.slice (s.rowRect hg.axis' j)).set]{fullShare}
        ((dst.view.slice (s.rowRect hg.axis' j)).write (Elt F) fd
          (fun i => src.view.read (Elt F) fs (hg.rowIdx (rows (offs.view.read (Elt F) fo) hn hin j) i)) Finset.univ))
      ∗ (offs.view.loc c ↦[{offs.view.emb (si.rowMajor.symm (j.cast hn.symm))}]{qo} fo))
    ∗ (src.view.loc c ↦[src.view.set]{pieceOf q (s.size hg.axis') (Shape.size_pos_of_numel_pos hs _) j} fs))

instance rowBack_storable (j : Fin (s.size hg.axis')) :
    Storable (upEmb : UEmb _ 𝕄) (rowBack (U := U) (Lvl := Lvl) (Ix := Ix) (Name := Name) c src dst hg offs hn hs q qo fs fd fo hin j) := by
  unfold rowBack; infer_instance

/-- All of a gather's rows together: the destination written with the gather's payload, the source's and the list's
    shares whole again. -/
theorem rowBack_join :
    (bigSep Finset.univ (rowBack c src dst hg offs hn hs q qo fs fd fo hin) : sProp 𝕄)
      ⊢ iprop((dst.view.loc c ↦[dst.view.set]{fullShare}
                (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hen : Function.Bijective fun j : Fin (s.size hg.axis') => si.rowMajor.symm (j.cast hn.symm) :=
    si.rowMajor.symm.bijective.comp (finCongr hn.symm).bijective
  have hrows := pointsTo_rows_write (Ix := Ix) (Name := Name) (U := U) (Lvl := Lvl) c dst.view hg.axis' fd
      (fun j i => src.view.read (Elt F) fs (hg.rowIdx (rows (offs.view.read (Elt F) fo) hn hin j) i))
      (gatherPayload hg (src.view.read (Elt F) fs) (rows (offs.view.read (Elt F) fo) hn hin)) fun j i => by
        unfold gatherPayload; rw [Shape.Gathers.idx_rowRect_emb]
  unfold rowBack
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply hrows
    iexact Hrows
  isplitl [Hsrc]; · iapply (Entails.of_eq (pointsTo_piecesOf (src.view.set) fs (Shape.size_pos_of_numel_pos hs _) q).symm) $$ Hsrc
  iapply (Entails.of_eq (pointsTo_entries c offs.view _ hen qo fo).symm) $$ Hoffs

end Row

/-! ## Issuing a gather as the next rows of a batch -/

/-- Issuing a gather as the next rows of a batch: holding a share of the source, the destination outright, a share of the
    list (every word in range) and the batch with `j` row copies issued, the tile issues the gather and continues with
    the batch at `j + ` its number of rows, where each row's hand-back is what the batch was to deliver for it. -/
theorem wp_gatherBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {D : Fin n → sProp 𝕄} {j u : ℕ}
    (ι : Ix) (N : ℕ) (hN : ∀ i, (dst.slice (s.rowRect hg.axis' i) (s.stride_rowRect hg.axis' i)).view.dmaCredit = N)
    (hs : 0 < s.numel) (hin : ∀ x, (offs.view.read (Elt F) fo x).toNat < s₀.size hg.axis)
    (hj : j + s.size hg.axis' ≤ n) (hu : u ≤ j * N)
    (hD : ∀ i : Fin (s.size hg.axis'), rowBack c src dst hg offs hn hs q qo fs fd fo hin i ⊢ D ⟨j + i.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  have ho : 0 < s.size hg.axis' := Shape.size_pos_of_numel_pos hs _
  let S : Stream nD τ sig (Elt F) :=
    Stream.issued c offs.view hn sem (fun i w => (rowOf (s₀.size hg.axis) w).map (gatherRow c src dst hg sem hsrc he hsp hr i)) 0
  let r : Fin (s.size hg.axis') → Fin (s₀.size hg.axis) := rows (offs.view.read (Elt F) fo) hn hin
  let rd : Fin (s.size hg.axis') → RowDma τ sig (Elt F) c.2 sem := fun i => gatherRow c src dst hg sem hsrc he hsp hr i (r i)
  have hA : S.RowsAgree := by
    intro i x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hen : Function.Bijective S.entry :=
    (si.rowMajor.symm.bijective.comp (finCongr hn.symm).bijective)
  have hsum : ∑ i, (dst.slice (s.rowRect hg.axis' i) (s.stride_rowRect hg.axis' i)).view.dmaCredit = s.size hg.axis' * N := by
    rw [Finset.sum_congr rfl fun i _ => hN i, Finset.sum_const, Finset.card_univ, Fintype.card_fin, smul_eq_mul]
  iintro ⟨Hs, Hd, Ho, Hb⟩ Hk
  unfold Transfers.Batch
  icases Hb with ⟨%γ, %γ₀, %κ, #Hinv, HI, H0, Hcred⟩
  ihave HI' := (Entails.of_eq (pending_run (fun t => count EC (γ t) 0) j (s.size hg.axis') hj)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i, iprop(inv κ (Transfers.batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{pieceOf q _ ho i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγj⟩
      isplitl [He]; · iexact He
      iintro He
      unfold rowRes
      iexists pieceOf q _ ho i, fs, iprop((dst.view.loc c ↦[(dst.view.slice (s.rowRect hg.axis' i)).set]{fullShare}
        ((dst.view.slice (s.rowRect hg.axis' i)).write (Elt F) fd (fun x => src.view.read (Elt F) fs (hg.rowIdx (r i) x)) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · have hcu := Transfers.batch_creditUpdate EC (g := (c, SemLoc.dma sem)) (N := N) (γ := γ) (γ₀ := γ₀) (ι := κ) ⟨j + i.val, by omega⟩ (hD i)
        rw [← hN i] at hcu ⊢
        iapply hcu
        isplitr; · rw [hN i]; iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Proof.GatherBatch

end
-- ==== Proof.Tile.lean ====
/-
  The SparseCore call's tile, once, at a symbolic pair of SparseCore and tile.
-/
module

public import proofs.«01_k».proof.Proof.Setup
public import proofs.«01_k».proof.Proof.GatherBatch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v6_scv : Memref Cert.KernelIdeal.sig Kind.scVector Space.hbm Cert.KernelIdeal.S64x128 EltTy.i32)
local notation "tV" => (Memref.whole Cert.KernelIdeal.main_v7_scv : Memref Cert.KernelIdeal.sig Kind.scVector Space.hbm Cert.KernelIdeal.S2048x2x128 EltTy.f32)
local notation "sV" => (Memref.whole Cert.KernelIdeal.main_v8_scv : Memref Cert.KernelIdeal.sig Kind.scVector Space.hbm Cert.KernelIdeal.S2048 EltTy.f32)
local notation "eV" => (Memref.whole Cert.KernelIdeal.main_v9_0_scv : Memref Cert.KernelIdeal.sig Kind.scVector Space.hbm Cert.KernelIdeal.S8192x2x128 EltTy.f32)
local notation "pV" => (Memref.whole Cert.KernelIdeal.main_v9_1_scv : Memref Cert.KernelIdeal.sig Kind.scVector Space.hbm Cert.KernelIdeal.S32x16 EltTy.f32)
local notation "lB" => (Memref.whole Cert.KernelIdeal.cc1_scratch0 : Memref Cert.KernelIdeal.sig Kind.scVector Space.vmem Cert.KernelIdeal.S2x128 EltTy.i32)
local notation "rB" => (Memref.whole Cert.KernelIdeal.cc1_scratch1 : Memref Cert.KernelIdeal.sig Kind.scVector Space.vmem Cert.KernelIdeal.S256x2x128 EltTy.f32)
local notation "gB" => (Memref.whole Cert.KernelIdeal.cc1_scratch2 : Memref Cert.KernelIdeal.sig Kind.scVector Space.vmem Cert.KernelIdeal.S256 EltTy.f32)
local notation "aB" => (Memref.whole Cert.KernelIdeal.cc1_scratch3 : Memref Cert.KernelIdeal.sig Kind.scVector Space.vmem Cert.KernelIdeal.S16 EltTy.f32)

/-! ## The tile's number and its pieces of the results -/

/-- Tile `s` of SparseCore `c` is number `2 s + c` of the thirty-two. -/
def wid (c : Fin 2) (s : Fin 16) : Fin 32 := ⟨2 * s.val + c.val, by omega⟩

theorem ediv : 32 ∣ S8192x2x128.size 0 := ⟨256, rfl⟩
theorem pdiv : 32 ∣ S32x16.size 0 := ⟨1, rfl⟩
abbrev eRow (w : Fin 32) : Rect S8192x2x128 := Rect.part (s := S8192x2x128) (a₀ := 0) ediv w
abbrev pRow (w : Fin 32) : Rect S32x16 := Rect.part (s := S32x16) (a₀ := 0) pdiv w
/-- Tile `w`'s 256 rows of the first result and its row of the second. -/
abbrev eSet (w : Fin 32) : Finset S8192x2x128.Idx := ((eV).view.slice (eRow w)).set
abbrev pSet (w : Fin 32) : Finset S32x16.Idx := ((pV).view.slice (pRow w)).set

/-- Tile `w`'s share of an operand every tile reads. -/
abbrev rq (w : Fin 32) : PosShare TreeShare := leaf 5 fullShare w

section Contract

variable (ia : Dev nD → S64x128.Idx → BitVec 32) (ta : Dev nD → S2048x2x128.Idx → F .f32) (sa : Dev nD → S2048.Idx → F .f32)

/-- What tile `w` starts from: its shares of the three operands and its pieces of the results. -/
def tileIn (d : Dev nD) (w : Fin 32) : sProp 𝕄 :=
  iprop((iLoc d ↦{rq w} (ia d : Buf (Elt F) (iLoc d))) ∗ (tLoc d ↦{rq w} (ta d : Buf (Elt F) (tLoc d))) ∗ (sLoc d ↦{rq w} (sa d : Buf (Elt F) (sLoc d)))
    ∗ (∃ f, eLoc d ↦[eSet w]{fullShare} f) ∗ (∃ f, pLoc d ↦[pSet w]{fullShare} f))

/-- What tile `w` brings back: the same shares, and its pieces of the results at their values. -/
def tileOut [FloatOps F] (d : Dev nD) (w : Fin 32) : sProp 𝕄 :=
  iprop((iLoc d ↦{rq w} (ia d : Buf (Elt F) (iLoc d))) ∗ (tLoc d ↦{rq w} (ta d : Buf (Elt F) (tLoc d))) ∗ (sLoc d ↦{rq w} (sa d : Buf (Elt F) (sLoc d)))
    ∗ (eLoc d ↦[eSet w]{fullShare} (embOf (ia d) (ta d) : Buf (Elt F) (eLoc d)))
    ∗ (pLoc d ↦[pSet w]{fullShare} (partsOf (ia d) (sa d) : Buf (Elt F) (pLoc d))))

instance tileIn_storable (d : Dev nD) (w : Fin 32) : Storable (upEmb : UEmb _ 𝕄) (tileIn ia ta sa d w) := by unfold tileIn; infer_instance
instance tileOut_storable [FloatOps F] (d : Dev nD) (w : Fin 32) : Storable (upEmb : UEmb _ 𝕄) (tileOut ia ta sa d w) := by unfold tileOut; infer_instance

end Contract

/-! ## The tile's buffers as it addresses them -/

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
def wL (L : grid1.Coords) : Fin 32 := wid (Fin.cast bound_zero (L 0)) (Fin.cast bound_one (L 1))
theorem wL_val : (wL L).val = 2 * (L 1).val + (L 0).val := rfl
abbrev tileThr (d : Dev nD) (L : grid1.Coords) : Thread nD τ := V d (cV L) (jV L)

abbrev eRowK (L : grid1.Coords) : Memref sig .scVector .hbm S256x2x128 .f32 :=
  (eV).slice (Rect.unit (s := S8192x2x128) (k1_off2 L) S256x2x128.size (k1_off2_inb L)) (fun _ => rfl)
abbrev pRowK (L : grid1.Coords) : Memref sig .scVector .hbm S16 .f32 :=
  ((pV).slice (Rect.unit (s := S32x16) (k1_off3 L) S1x16.size (k1_off3_inb L)) (fun _ => rfl)).squeeze S16 squeezes_S1x16_S16
abbrev iRowK (L : grid1.Coords) : Memref sig .scVector .hbm S2x128 .i32 :=
  (iV).slice (Rect.unit (s := S64x128) (k1_off1 L) S2x128.size (k1_off1_inb L)) (fun _ => rfl)

theorem eRowK_eq : Rect.unit (s := S8192x2x128) (k1_off2 L) S256x2x128.size (k1_off2_inb L) = eRow (wL L) := by
  unfold eRow Rect.part Rect.block
  congr 1 <;> funext a
  · rw [k1_off2_eq]
    match a with
    | 0 =>
      have h2 := wL_val L
      simp [Shape.partIx, Shape.partSize, h2]; omega
    | 1 => simp [Shape.partIx, Shape.partSize]
    | 2 => simp [Shape.partIx, Shape.partSize]
  · match a with
    | 0 => simp [Shape.partSize]
    | 1 => simp [Shape.partSize]
    | 2 => simp [Shape.partSize]
theorem pRowK_eq : Rect.unit (s := S32x16) (k1_off3 L) S1x16.size (k1_off3_inb L) = pRow (wL L) := by
  unfold pRow Rect.part Rect.block
  congr 1 <;> funext a
  · rw [k1_off3_eq]
    match a with
    | 0 =>
      have h2 := wL_val L
      simp [Shape.partIx, Shape.partSize, h2]
    | 1 => simp [Shape.partIx, Shape.partSize]
  · match a with
    | 0 => simp [Shape.partSize]
    | 1 => simp [Shape.partSize]

theorem set_eRowK : (eRowK L).view.set = eSet (wL L) := by
  show ((eV).view.slice (Rect.unit (s := S8192x2x128) (k1_off2 L) S256x2x128.size (k1_off2_inb L))).set = ((eV).view.slice (eRow (wL L))).set
  exact eRowK_eq L ▸ rfl
theorem set_pRowK : (pRowK L).view.set = pSet (wL L) := by
  show (((pV).view.slice (Rect.unit (s := S32x16) (k1_off3 L) S1x16.size (k1_off3_inb L))).reshape S16 squeezes_S1x16_S16.numel_eq).set = ((pV).view.slice (pRow (wL L))).set
  rw [View.set_reshape]
  exact pRowK_eq L ▸ rfl

theorem pts_eRowK (f : Buf (Elt F) (eLoc d)) :
    ((eRowK L).view.loc (tileThr d L) ↦[(eRowK L).view.set]{fullShare} f : sProp 𝕄) = eLoc d ↦[eSet (wL L)]{fullShare} f := by
  rw [set_eRowK]
theorem pts_pRowK (f : Buf (Elt F) (pLoc d)) :
    ((pRowK L).view.loc (tileThr d L) ↦[(pRowK L).view.set]{fullShare} f : sProp 𝕄) = pLoc d ↦[pSet (wL L)]{fullShare} f := by
  rw [set_pRowK]

/-! ## The tile's semaphores and scratch -/

abbrev dcell (d : Dev nD) (L : grid1.Coords) (s : DmaSem sig) : GSem nD τ sig := (tileThr d L, .dma s)

theorem dcell_mem (s : DmaSem sig) (h : (SemLoc.dma s : SemLoc sig).isScoped .scVector = true) : dcell d L s ∈ ownCells (tileThr d L) :=
  mem_ownCells.mpr ⟨rfl, h⟩

theorem dcell_ne {s s' : DmaSem sig} (h : s ≠ s') : dcell d L s ≠ dcell d L s' := fun e => h (by
  have := congrArg Prod.snd e; simpa using this)

/-- The tile's five DMA semaphores, at zero, and the rest of its own. -/
theorem ownSems0_V :
    (ownSems0 (tileThr d L) : sProp 𝕄)
      = iprop(semVal (dcell d L cc1_scratch4.sem) 0 ∗ semVal (dcell d L cc1_scratch5.sem) 0 ∗ semVal (dcell d L cc1_scoped0.sem) 0
          ∗ semVal (dcell d L cc1_scoped1.sem) 0 ∗ semVal (dcell d L cc1_scoped2.sem) 0
          ∗ bigSep ((((((ownCells (tileThr d L)).erase (dcell d L cc1_scratch4.sem)).erase (dcell d L cc1_scratch5.sem)).erase (dcell d L cc1_scoped0.sem)).erase
              (dcell d L cc1_scoped1.sem)).erase (dcell d L cc1_scoped2.sem)) fun g => semVal g 0) := by
  unfold SparseCore.Cfg.ownSems0
  rw [SparseCore.bigSep_erase' (dcell_mem d L cc1_scratch4.sem (by decide)),
    SparseCore.bigSep_erase' (Finset.mem_erase.mpr ⟨dcell_ne d L (by decide), dcell_mem d L cc1_scratch5.sem (by decide)⟩),
    SparseCore.bigSep_erase' (Finset.mem_erase.mpr ⟨dcell_ne d L (by decide), Finset.mem_erase.mpr ⟨dcell_ne d L (by decide), dcell_mem d L cc1_scoped0.sem (by decide)⟩⟩),
    SparseCore.bigSep_erase' (Finset.mem_erase.mpr ⟨dcell_ne d L (by decide), Finset.mem_erase.mpr ⟨dcell_ne d L (by decide), Finset.mem_erase.mpr ⟨dcell_ne d L (by decide),
      dcell_mem d L cc1_scoped1.sem (by decide)⟩⟩⟩),
    SparseCore.bigSep_erase' (Finset.mem_erase.mpr ⟨dcell_ne d L (by decide), Finset.mem_erase.mpr ⟨dcell_ne d L (by decide), Finset.mem_erase.mpr ⟨dcell_ne d L (by decide),
      Finset.mem_erase.mpr ⟨dcell_ne d L (by decide), dcell_mem d L cc1_scoped2.sem (by decide)⟩⟩⟩⟩)]

abbrev bref (L : grid1.Coords) (b : Ref sig .scVector) : DevRef τ sig := (Proc.scVector (cV L) (jV L)).devRef b

theorem bref_ne {b b' : Ref sig .scVector} (h : b ≠ b') : bref L b ≠ bref L b' := fun e => h (Proc.devRef_injective _ e)

/-- The tile's four scratch buffers, at some contents, and the rest of its own. -/
theorem ownBufs_V :
    (ownBufs (tileThr d L) : sProp 𝕄)
      = iprop((∃ f, (tileThr d L).loc cc1_scratch0 ↦{fullShare} f) ∗ (∃ f, (tileThr d L).loc cc1_scratch1 ↦{fullShare} f)
          ∗ (∃ f, (tileThr d L).loc cc1_scratch2 ↦{fullShare} f) ∗ (∃ f, (tileThr d L).loc cc1_scratch3 ↦{fullShare} f)
          ∗ bigSep (((((ownRefs (τ := τ) (.scVector (cV L) (jV L))).erase (bref L cc1_scratch0)).erase (bref L cc1_scratch1)).erase (bref L cc1_scratch2)).erase (bref L cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := bref L cc1_scratch0) rfl)).trans ?_
  rw [SparseCore.bigSep_erase' (Finset.mem_erase.mpr ⟨bref_ne L (by decide), SparseCore.Cfg.mem_ownRefs_of_owner (p := Proc.scVector (cV L) (jV L)) (b := bref L cc1_scratch1) rfl⟩),
    SparseCore.bigSep_erase' (Finset.mem_erase.mpr ⟨bref_ne L (by decide), Finset.mem_erase.mpr ⟨bref_ne L (by decide),
      SparseCore.Cfg.mem_ownRefs_of_owner (p := Proc.scVector (cV L) (jV L)) (b := bref L cc1_scratch2) rfl⟩⟩),
    SparseCore.bigSep_erase' (Finset.mem_erase.mpr ⟨bref_ne L (by decide), Finset.mem_erase.mpr ⟨bref_ne L (by decide), Finset.mem_erase.mpr ⟨bref_ne L (by decide),
      SparseCore.Cfg.mem_ownRefs_of_owner (p := Proc.scVector (cV L) (jV L)) (b := bref L cc1_scratch3) rfl⟩⟩⟩)]

/-! ## The two halves of the scratch buffers, and whole operands, as the gathers address them -/

abbrev tAll : Memref sig .scVector .hbm S2048x2x128 .f32 :=
  (tV).slice (Rect.unit (s := S2048x2x128) ![0, 0, 0] S2048x2x128.size inb_S2048x2x128_S2048x2x128_0_0_0) (fun _ => rfl)
abbrev sAll : Memref sig .scVector .hbm S2048 .f32 := (sV).slice (Rect.unit (s := S2048) ![0] S2048.size inb_S2048_S2048_0) (fun _ => rfl)
abbrev rLo : Memref sig .scVector .vmem S128x2x128 .f32 :=
  (rB).slice (Rect.unit (s := S256x2x128) ![0, 0, 0] S128x2x128.size inb_S256x2x128_S128x2x128_0_0_0) (fun _ => rfl)
abbrev rHi : Memref sig .scVector .vmem S128x2x128 .f32 :=
  (rB).slice (Rect.unit (s := S256x2x128) ![128, 0, 0] S128x2x128.size inb_S256x2x128_S128x2x128_128_0_0) (fun _ => rfl)
abbrev gLo : Memref sig .scVector .vmem S128 .f32 := (gB).slice (Rect.unit (s := S256) ![0] S128.size inb_S256_S128_0) (fun _ => rfl)
abbrev gHi : Memref sig .scVector .vmem S128 .f32 := (gB).slice (Rect.unit (s := S256) ![128] S128.size inb_S256_S128_128) (fun _ => rfl)
abbrev lLo : Memref sig .scVector .vmem S128 .i32 :=
  ((lB).slice (Rect.unit (s := S2x128) ![0, 0] S1x128.size inb_S2x128_S1x128_0_0) (fun _ => rfl)).squeeze S128 squeezes_S1x128_S128
abbrev lHi : Memref sig .scVector .vmem S128 .i32 :=
  ((lB).slice (Rect.unit (s := S2x128) ![1, 0] S1x128.size inb_S2x128_S1x128_1_0) (fun _ => rfl)).squeeze S128 squeezes_S1x128_S128

/-- Entry `k` of the list's first line, and of its second. -/
theorem lLo_emb (k : Fin 128) : (lLo).view.emb (ix1 (n0 := 128) k) = ix2 (n0 := 2) (n1 := 128) 0 k := by
  revert k; decide +kernel
theorem lHi_emb (k : Fin 128) : (lHi).view.emb (ix1 (n0 := 128) k) = ix2 (n0 := 2) (n1 := 128) 1 k := by
  revert k; decide +kernel
/-- Lane `l` of the tile's row of the second result. -/
theorem pRowK_emb (l : Fin 16) : (pRowK L).view.emb (ix1 (n0 := 16) l) = ix2 (n0 := 32) (n1 := 16) (wL L) l := by
  revert L l; decide +kernel

theorem S128_rowMajor_symm (k : Fin 128) : S128.rowMajor.symm (k.cast (by decide)) = ix1 (n0 := 128) k := by
  revert k; decide +kernel

/-! ### The halves make up the whole -/

theorem halves {s : Shape} (n : ℕ) (a : Fin s.rank) {lo hi : Finset s.Idx} (hlo : ∀ x, x ∈ lo ↔ (x a).val < n) (hhi : ∀ x, x ∈ hi ↔ n ≤ (x a).val) :
    Disjoint lo hi ∧ lo ∪ hi = Finset.univ := by
  constructor
  · rw [Finset.disjoint_left]; intro x h1 h2
    have := (hlo x).mp h1; have := (hhi x).mp h2; omega
  · ext x; simp only [Finset.mem_union, Finset.mem_univ, iff_true, hlo, hhi]; omega

theorem mem_rLo (x : S256x2x128.Idx) : x ∈ (rLo).view.set ↔ (x 0).val < 128 := by
  rw [show (rLo).view.set = (Rect.unit (s := S256x2x128) ![0, 0, 0] S128x2x128.size inb_S256x2x128_S128x2x128_0_0_0).set from View.set_slice_whole _ _, Rect.mem_set_unit]
  have h1 : (x 1).val < 2 := (x 1).isLt
  have h2 : (x 2).val < 128 := (x 2).isLt
  constructor
  · intro h; have := (h 0).2; simpa using this
  · intro h a; match a with
    | 0 => exact ⟨Nat.zero_le _, by simpa using h⟩
    | 1 => exact ⟨Nat.zero_le _, by simpa using h1⟩
    | 2 => exact ⟨Nat.zero_le _, by simpa using h2⟩
theorem mem_rHi (x : S256x2x128.Idx) : x ∈ (rHi).view.set ↔ 128 ≤ (x 0).val := by
  rw [show (rHi).view.set = (Rect.unit (s := S256x2x128) ![128, 0, 0] S128x2x128.size inb_S256x2x128_S128x2x128_128_0_0).set from View.set_slice_whole _ _, Rect.mem_set_unit]
  have h0 : (x 0).val < 256 := (x 0).isLt
  have h1 : (x 1).val < 2 := (x 1).isLt
  have h2 : (x 2).val < 128 := (x 2).isLt
  constructor
  · intro h; have := (h 0).1; simpa using this
  · intro h a; match a with
    | 0 => exact ⟨by simpa using h, by simpa using h0⟩
    | 1 => exact ⟨Nat.zero_le _, by simpa using h1⟩
    | 2 => exact ⟨Nat.zero_le _, by simpa using h2⟩
theorem mem_gLo (x : S256.Idx) : x ∈ (gLo).view.set ↔ (x 0).val < 128 := by
  rw [show (gLo).view.set = (Rect.unit (s := S256) ![0] S128.size inb_S256_S128_0).set from View.set_slice_whole _ _, Rect.mem_set_unit]
  constructor
  · intro h; have := (h 0).2; simpa using this
  · intro h a; match a with
    | 0 => exact ⟨Nat.zero_le _, by simpa using h⟩
theorem mem_gHi (x : S256.Idx) : x ∈ (gHi).view.set ↔ 128 ≤ (x 0).val := by
  rw [show (gHi).view.set = (Rect.unit (s := S256) ![128] S128.size inb_S256_S128_128).set from View.set_slice_whole _ _, Rect.mem_set_unit]
  have h0 : (x 0).val < 256 := (x 0).isLt
  constructor
  · intro h; have := (h 0).1; simpa using this
  · intro h a; match a with
    | 0 => exact ⟨by simpa using h, by simpa using h0⟩
theorem mem_lLo (x : S2x128.Idx) : x ∈ (lLo).view.set ↔ (x 0).val < 1 := by
  rw [show (lLo).view.set = (Rect.unit (s := S2x128) ![0, 0] S1x128.size inb_S2x128_S1x128_0_0).set from (View.set_reshape _ _).trans (View.set_slice_whole _ _), Rect.mem_set_unit]
  have h1 : (x 1).val < 128 := (x 1).isLt
  constructor
  · intro h; have := (h 0).2; simpa using this
  · intro h a; match a with
    | 0 => exact ⟨Nat.zero_le _, by simpa using h⟩
    | 1 => exact ⟨Nat.zero_le _, by simpa using h1⟩
theorem mem_lHi (x : S2x128.Idx) : x ∈ (lHi).view.set ↔ 1 ≤ (x 0).val := by
  rw [show (lHi).view.set = (Rect.unit (s := S2x128) ![1, 0] S1x128.size inb_S2x128_S1x128_1_0).set from (View.set_reshape _ _).trans (View.set_slice_whole _ _), Rect.mem_set_unit]
  have h0 : (x 0).val < 2 := (x 0).isLt
  have h1 : (x 1).val < 128 := (x 1).isLt
  constructor
  · intro h; have := (h 0).1; simpa using this
  · intro h a; match a with
    | 0 => exact ⟨by simpa using h, by simpa using h0⟩
    | 1 => exact ⟨Nat.zero_le _, by simpa using h1⟩

/-- A buffer held whole is its two halves. -/
theorem pts_halves {ℓ : Loc nD τ sig} {lo hi : Finset (Idx ℓ)} (h : Disjoint lo hi ∧ lo ∪ hi = Finset.univ) (q : PosShare TreeShare) (f : Buf (Elt F) ℓ) :
    (ℓ ↦{q} f : sProp 𝕄) = iprop((ℓ ↦[lo]{q} f) ∗ ℓ ↦[hi]{q} f) := by
  rw [← h.2]; exact BI.Entails.antisymm (pointsTo_union h.1).1 (pointsTo_union h.1).2

theorem rHalves : Disjoint (rLo).view.set (rHi).view.set ∧ (rLo).view.set ∪ (rHi).view.set = Finset.univ := halves 128 (0 : Fin 3) mem_rLo mem_rHi
theorem gHalves : Disjoint (gLo).view.set (gHi).view.set ∧ (gLo).view.set ∪ (gHi).view.set = Finset.univ := halves 128 (0 : Fin 1) mem_gLo mem_gHi
theorem lHalves : Disjoint (lLo).view.set (lHi).view.set ∧ (lLo).view.set ∪ (lHi).view.set = Finset.univ := halves 1 (0 : Fin 2) mem_lLo mem_lHi

theorem set_tAll : (tAll).view.set = Finset.univ := by
  rw [show (tAll).view.set = (Rect.unit (s := S2048x2x128) ![0, 0, 0] S2048x2x128.size inb_S2048x2x128_S2048x2x128_0_0_0).set from View.set_slice_whole _ _]
  ext x; simp only [Rect.mem_set_unit, Finset.mem_univ, iff_true]
  intro a; match a with
  | 0 => exact ⟨Nat.zero_le _, by simpa using (x 0).isLt⟩
  | 1 => exact ⟨Nat.zero_le _, by simpa using (x 1).isLt⟩
  | 2 => exact ⟨Nat.zero_le _, by simpa using (x 2).isLt⟩
theorem set_sAll : (sAll).view.set = Finset.univ := by
  rw [show (sAll).view.set = (Rect.unit (s := S2048) ![0] S2048.size inb_S2048_S2048_0).set from View.set_slice_whole _ _]
  ext x; simp only [Rect.mem_set_unit, Finset.mem_univ, iff_true]
  intro a; match a with
  | 0 => exact ⟨Nat.zero_le _, by simpa using (x 0).isLt⟩

/-! ## What the gathers bring -/

/-- The tile's two lines of the list. -/
def lst (ia : S64x128.Idx → BitVec 32) (L : grid1.Coords) : S2x128.Idx → BitVec 32 := fun x => ia ((iRowK L).view.emb x)

theorem iRowK_emb (x : S2x128.Idx) : (iRowK L).view.emb x = ix2 (n0 := 64) (n1 := 128) ⟨2 * (wL L).val + (x 0).val, by
    have h : (x 0).val < 2 := (x 0).isLt
    have := (wL L).isLt; omega⟩ (x 1) := by
  have h0 := wL_val L
  funext a; apply Fin.ext
  show (k1_off1 L) a + 1 * (x a).val = _
  rw [k1_off1_eq]
  match a with
  | 0 => show 4 * (L 1).val + 2 * (L 0).val + 1 * (x 0).val = 2 * (wL L).val + (x 0).val; omega
  | 1 => show 0 + 1 * (x 1).val = (x 1).val; omega

/-- Entry `r` of the tile's part of the list: the table row it names. -/
def lrow (lv : S2x128.Idx → BitVec 32) (r : Fin 256) : Fin 2048 :=
  Fin.ofNat 2048 (lv (ix2 (n0 := 2) (n1 := 128) ⟨r.val / 128, by omega⟩ ⟨r.val % 128, by omega⟩)).toNat

theorem lrow_lst (ia : S64x128.Idx → BitVec 32) (r : Fin 256) (r' : Fin 8192) (h : r'.val = 256 * (wL L).val + r.val) : lrow (lst ia L) r = rowAt ia r' := by
  unfold lrow rowAt lst
  rw [iRowK_emb]
  congr 3
  congr 1
  · apply Fin.ext; simp only [ix2_0]; omega
  · apply Fin.ext; simp only [ix2_1]; omega

/-- The tile's 256 gathered rows, and its 256 gathered row sums. -/
def rTarget (lv : S2x128.Idx → BitVec 32) (ta : S2048x2x128.Idx → F .f32) : S256x2x128.Idx → F .f32 :=
  fun x => ta (ix3 (n0 := 2048) (n1 := 2) (n2 := 128) (lrow lv (x 0)) (x 1) (x 2))
def gTarget (lv : S2x128.Idx → BitVec 32) (sa : S2048.Idx → F .f32) : S256.Idx → F .f32 :=
  fun x => sa (ix1 (n0 := 2048) (lrow lv (x 0)))

theorem rowIdx_zero (r : Fin 128 → Fin 2048) (x : S128x2x128.Idx) : gathers_S2048x2x128_S128x2x128.idx r x 0 = r (x 0) := Shape.Gathers.idx_axis gathers_S2048x2x128_S128x2x128 r x
theorem rowIdx_one (r : Fin 128 → Fin 2048) (x : S128x2x128.Idx) : gathers_S2048x2x128_S128x2x128.idx r x 1 = x 1 := Fin.ext (Shape.Gathers.idx_of_ne gathers_S2048x2x128_S128x2x128 r x 1 (by decide))
theorem rowIdx_two (r : Fin 128 → Fin 2048) (x : S128x2x128.Idx) : gathers_S2048x2x128_S128x2x128.idx r x 2 = x 2 := Fin.ext (Shape.Gathers.idx_of_ne gathers_S2048x2x128_S128x2x128 r x 2 (by decide))
theorem sumIdx_zero (r : Fin 128 → Fin 2048) (x : S128.Idx) : gathers_S2048_S128.idx r x 0 = r (x 0) := Shape.Gathers.idx_axis gathers_S2048_S128 r x

section Gathered

variable (lv : S2x128.Idx → BitVec 32) (ta : S2048x2x128.Idx → F .f32) (sa : S2048.Idx → F .f32) (hv : ∀ x, (lv x).toNat < 2048)

theorem rows_lLo (hn : S128.numel = 128) (h : ∀ x, ((lLo).view.read (Elt F) lv x).toNat < 2048) (k : Fin 128) :
    SparseCore.rows (F := F) (o := 128) ((lLo).view.read (Elt F) lv) hn h k = lrow lv ⟨k.val, by omega⟩ := by
  apply Fin.ext
  show (lv ((lLo).view.emb (S128.rowMajor.symm (k.cast _)))).toNat = _
  rw [S128_rowMajor_symm, lLo_emb]
  unfold lrow
  have e : ix2 (n0 := 2) (n1 := 128) 0 k = ix2 (n0 := 2) (n1 := 128) ⟨k.val / 128, by omega⟩ ⟨k.val % 128, by omega⟩ := by
    congr 1 <;> apply Fin.ext <;> simp <;> omega
  rw [e]
  exact (Nat.mod_eq_of_lt (by have := h (ix1 k); rwa [show (lLo).view.read (Elt F) lv (ix1 k) = lv ((lLo).view.emb (ix1 k)) from rfl, lLo_emb, e] at this)).symm
theorem rows_lHi (hn : S128.numel = 128) (h : ∀ x, ((lHi).view.read (Elt F) lv x).toNat < 2048) (k : Fin 128) :
    SparseCore.rows (F := F) (o := 128) ((lHi).view.read (Elt F) lv) hn h k = lrow lv ⟨128 + k.val, by omega⟩ := by
  apply Fin.ext
  show (lv ((lHi).view.emb (S128.rowMajor.symm (k.cast _)))).toNat = _
  rw [S128_rowMajor_symm, lHi_emb]
  unfold lrow
  have e : ix2 (n0 := 2) (n1 := 128) 1 k = ix2 (n0 := 2) (n1 := 128) ⟨(128 + k.val) / 128, by omega⟩ ⟨(128 + k.val) % 128, by omega⟩ := by
    congr 1 <;> apply Fin.ext <;> simp <;> omega
  rw [e]
  exact (Nat.mod_eq_of_lt (by have := h (ix1 k); rwa [show (lHi).view.read (Elt F) lv (ix1 k) = lv ((lHi).view.emb (ix1 k)) from rfl, lHi_emb, e] at this)).symm

theorem rLo_val (fr : S256x2x128.Idx → F .f32) (hn : S128.numel = 128) (h : ∀ x, ((lLo).view.read (Elt F) lv x).toNat < 2048) :
    ∀ y ∈ (rLo).view.set, (rLo).view.write (Elt F) fr (SparseCore.gatherPayload (F := F) (e := .f32) gathers_S2048x2x128_S128x2x128 ((tAll).view.read (Elt F) ta)
      (SparseCore.rows (F := F) (o := 128) ((lLo).view.read (Elt F) lv) hn h)) Finset.univ y = rTarget lv ta y := by
  intro y hy
  obtain ⟨x, -, rfl⟩ := Finset.mem_map.mp hy
  rw [View.write_emb_of_mem _ _ (Finset.mem_univ x), cast_eq]
  show ta ((tAll).view.emb (gathers_S2048x2x128_S128x2x128.idx _ x)) = _
  unfold rTarget
  congr 1
  funext a; apply Fin.ext
  match a with
  | 0 =>
    refine (congrArg (fun v : Fin 2048 => 0 + 1 * v.val) ((rowIdx_zero _ x).trans (rows_lLo lv hn h (x 0)))).trans ?_
    show 0 + 1 * (lrow lv _).val = (lrow lv _).val
    rw [Nat.zero_add, Nat.one_mul]
    congr 2; apply Fin.ext
    show  (x 0).val = 0 + 1 * (x 0).val
    omega
  | 1 => exact congrArg (fun v : Fin 2 => 0 + 1 * v.val) (rowIdx_one _ x)
  | 2 => exact congrArg (fun v : Fin 128 => 0 + 1 * v.val) (rowIdx_two _ x)

theorem rHi_val (fr : S256x2x128.Idx → F .f32) (hn : S128.numel = 128) (h : ∀ x, ((lHi).view.read (Elt F) lv x).toNat < 2048) :
    ∀ y ∈ (rHi).view.set, (rHi).view.write (Elt F) fr (SparseCore.gatherPayload (F := F) (e := .f32) gathers_S2048x2x128_S128x2x128 ((tAll).view.read (Elt F) ta)
      (SparseCore.rows (F := F) (o := 128) ((lHi).view.read (Elt F) lv) hn h)) Finset.univ y = rTarget lv ta y := by
  intro y hy
  obtain ⟨x, -, rfl⟩ := Finset.mem_map.mp hy
  rw [View.write_emb_of_mem _ _ (Finset.mem_univ x), cast_eq]
  show ta ((tAll).view.emb (gathers_S2048x2x128_S128x2x128.idx _ x)) = _
  unfold rTarget
  congr 1
  funext a; apply Fin.ext
  match a with
  | 0 =>
    refine (congrArg (fun v : Fin 2048 => 0 + 1 * v.val) ((rowIdx_zero _ x).trans (rows_lHi lv hn h (x 0)))).trans ?_
    show 0 + 1 * (lrow lv _).val = (lrow lv _).val
    rw [Nat.zero_add, Nat.one_mul]
    congr 2; apply Fin.ext
    show 128 + (x 0).val = 128 + 1 * (x 0).val
    omega
  | 1 => exact congrArg (fun v : Fin 2 => 0 + 1 * v.val) (rowIdx_one _ x)
  | 2 => exact congrArg (fun v : Fin 128 => 0 + 1 * v.val) (rowIdx_two _ x)

theorem gLo_val (fg : S256.Idx → F .f32) (hn : S128.numel = 128) (h : ∀ x, ((lLo).view.read (Elt F) lv x).toNat < 2048) :
    ∀ y ∈ (gLo).view.set, (gLo).view.write (Elt F) fg (SparseCore.gatherPayload (F := F) (e := .f32) gathers_S2048_S128 ((sAll).view.read (Elt F) sa)
      (SparseCore.rows (F := F) (o := 128) ((lLo).view.read (Elt F) lv) hn h)) Finset.univ y = gTarget lv sa y := by
  intro y hy
  obtain ⟨x, -, rfl⟩ := Finset.mem_map.mp hy
  rw [View.write_emb_of_mem _ _ (Finset.mem_univ x), cast_eq]
  show sa ((sAll).view.emb (gathers_S2048_S128.idx _ x)) = _
  unfold gTarget
  congr 1
  funext a; apply Fin.ext
  match a with
  | 0 =>
    refine (congrArg (fun v : Fin 2048 => 0 + 1 * v.val) ((sumIdx_zero _ x).trans (rows_lLo lv hn h (x 0)))).trans ?_
    show 0 + 1 * (lrow lv _).val = (lrow lv _).val
    rw [Nat.zero_add, Nat.one_mul]
    congr 2; apply Fin.ext
    show  (x 0).val = 0 + 1 * (x 0).val
    omega

theorem gHi_val (fg : S256.Idx → F .f32) (hn : S128.numel = 128) (h : ∀ x, ((lHi).view.read (Elt F) lv x).toNat < 2048) :
    ∀ y ∈ (gHi).view.set, (gHi).view.write (Elt F) fg (SparseCore.gatherPayload (F := F) (e := .f32) gathers_S2048_S128 ((sAll).view.read (Elt F) sa)
      (SparseCore.rows (F := F) (o := 128) ((lHi).view.read (Elt F) lv) hn h)) Finset.univ y = gTarget lv sa y := by
  intro y hy
  obtain ⟨x, -, rfl⟩ := Finset.mem_map.mp hy
  rw [View.write_emb_of_mem _ _ (Finset.mem_univ x), cast_eq]
  show sa ((sAll).view.emb (gathers_S2048_S128.idx _ x)) = _
  unfold gTarget
  congr 1
  funext a; apply Fin.ext
  match a with
  | 0 =>
    refine (congrArg (fun v : Fin 2048 => 0 + 1 * v.val) ((sumIdx_zero _ x).trans (rows_lHi lv hn h (x 0)))).trans ?_
    show 0 + 1 * (lrow lv _).val = (lrow lv _).val
    rw [Nat.zero_add, Nat.one_mul]
    congr 2; apply Fin.ext
    show 128 + (x 0).val = 128 + 1 * (x 0).val
    omega

end Gathered

/-! ## What the tile writes out -/

/-- The tile's rows are, at their places in the first result, the gathered rows of the whole. -/
theorem eRow_val (ia : S64x128.Idx → BitVec 32) (ta : S2048x2x128.Idx → F .f32) (x : S256x2x128.Idx) :
    rTarget (lst ia L) ta x = embOf ia ta ((eRowK L).view.emb x) := by
  show ta _ = ta _
  have h0 := wL_val L
  have hx : ∀ a, (((eRowK L).view.emb x) a).val = (![512 * (L 1).val + 256 * (L 0).val, 0, 0] : Fin 3 → ℕ) a + (x a).val := fun a => by
    show (k1_off2 L) a + 1 * (x a).val = _
    rw [k1_off2_eq]; simp
  congr 1
  have h1 : (eRowK L).view.emb x 1 = x 1 := Fin.ext (by rw [hx]; simp)
  have h2 : (eRowK L).view.emb x 2 = x 2 := Fin.ext (by rw [hx]; simp)
  rw [h1, h2, lrow_lst L ia (x 0) ((eRowK L).view.emb x 0) (by rw [hx]; show 512 * (L 1).val + 256 * (L 0).val + (x 0).val = 256 * (wL L).val + (x 0).val; omega)]

/-- Lane group `g` of the gathered row sums. -/
theorem gTarget_group (ia : S64x128.Idx → BitVec 32) (sa : S2048.Idx → F .f32) (g : Fin 16) (l : S16.Idx) (y : S256.Idx) (hy : (y 0).val = 16 * g.val + (l 0).val) :
    gTarget (lst ia L) sa y = laneGroup ia sa (wL L) g l := by
  unfold gTarget laneGroup
  rw [lrow_lst L ia (y 0) ⟨256 * (wL L).val + 16 * g.val + (l 0).val, by
    have h : (l 0).val < 16 := (l 0).isLt
    have := (wL L).isLt; omega⟩ (by simp only; omega)]

/-- A load of sixteen of the gathered row sums is a lane group. -/
theorem gTarget_read (ia : S64x128.Idx → BitVec 32) (sa : S2048.Idx → F .f32) (g : Fin 16) (off : ℕ) (h : off = 16 * g.val) (inb : ∀ a, (![off] : Fin 1 → ℕ) a + S16.size a ≤ S256.size a) :
    (gB).view.readAt (Elt F) (Rect.unit (s := S256) ![off] S16.size inb).toLoadRect (gTarget (lst ia L) sa) = laneGroup ia sa (wL L) g := by
  funext l
  exact gTarget_group L ia sa g l _ (by subst h; show 16 * g.val + 1 * (l 0).val = _; omega)

/-! ## The credits of the gathers' copies -/

/-- The credit of one gathered table row, and of one gathered row sum. -/
def rN : ℕ := ((rLo).slice (S128x2x128.rowRect gathers_S2048x2x128_S128x2x128.axis' (0 : Fin 128)) (S128x2x128.stride_rowRect gathers_S2048x2x128_S128x2x128.axis' (0 : Fin 128))).view.dmaCredit
def gN : ℕ := ((gLo).slice (S128.rowRect gathers_S2048_S128.axis' (0 : Fin 128)) (S128.stride_rowRect gathers_S2048_S128.axis' (0 : Fin 128))).view.dmaCredit

theorem rN_pos : 0 < rN := by decide +kernel
theorem gN_pos : 0 < gN := by decide +kernel
theorem rLo_row : ∀ i : Fin 128, ((rLo).slice (S128x2x128.rowRect gathers_S2048x2x128_S128x2x128.axis' i) (S128x2x128.stride_rowRect gathers_S2048x2x128_S128x2x128.axis' i)).view.dmaCredit = rN := by
  decide +kernel
theorem rHi_row : ∀ i : Fin 128, ((rHi).slice (S128x2x128.rowRect gathers_S2048x2x128_S128x2x128.axis' i) (S128x2x128.stride_rowRect gathers_S2048x2x128_S128x2x128.axis' i)).view.dmaCredit = rN := by
  decide +kernel
theorem gLo_row : ∀ i : Fin 128, ((gLo).slice (S128.rowRect gathers_S2048_S128.axis' i) (S128.stride_rowRect gathers_S2048_S128.axis' i)).view.dmaCredit = gN := by
  decide +kernel
theorem gHi_row : ∀ i : Fin 128, ((gHi).slice (S128.rowRect gathers_S2048_S128.axis' i) (S128.stride_rowRect gathers_S2048_S128.axis' i)).view.dmaCredit = gN := by
  decide +kernel
theorem rLo_credit : (rLo).view.dmaCredit = 128 * rN := by decide +kernel
theorem rHi_credit : (rHi).view.dmaCredit = 128 * rN := by decide +kernel
theorem gLo_credit : (gLo).view.dmaCredit = 128 * gN := by decide +kernel
theorem gHi_credit : (gHi).view.dmaCredit = 128 * gN := by decide +kernel

theorem mem_of_toNat_lt (lv : S2x128.Idx → BitVec 32) (hv : ∀ x, (lv x).toNat < 2048) :
    (∀ x, ((lLo).view.read (Elt F) lv x).toNat < 2048) ∧ (∀ x, ((lHi).view.read (Elt F) lv x).toNat < 2048) :=
  ⟨fun _ => hv _, fun _ => hv _⟩

end Tile

end Cert.Proof

end
-- ==== Proof.TileBody.lean ====
/-
  The SparseCore call's tile, once, at a symbolic pair of SparseCore and tile.
-/
module

public import proofs.«01_k».proof.Proof.Tile
public import proofs.«01_k».proof.Proof.GatherBatch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v6_scv : Memref Cert.KernelIdeal.sig Kind.scVector Space.hbm Cert.KernelIdeal.S64x128 EltTy.i32)
local notation "tV" => (Memref.whole Cert.KernelIdeal.main_v7_scv : Memref Cert.KernelIdeal.sig Kind.scVector Space.hbm Cert.KernelIdeal.S2048x2x128 EltTy.f32)
local notation "sV" => (Memref.whole Cert.KernelIdeal.main_v8_scv : Memref Cert.KernelIdeal.sig Kind.scVector Space.hbm Cert.KernelIdeal.S2048 EltTy.f32)
local notation "eV" => (Memref.whole Cert.KernelIdeal.main_v9_0_scv : Memref Cert.KernelIdeal.sig Kind.scVector Space.hbm Cert.KernelIdeal.S8192x2x128 EltTy.f32)
local notation "pV" => (Memref.whole Cert.KernelIdeal.main_v9_1_scv : Memref Cert.KernelIdeal.sig Kind.scVector Space.hbm Cert.KernelIdeal.S32x16 EltTy.f32)
local notation "lB" => (Memref.whole Cert.KernelIdeal.cc1_scratch0 : Memref Cert.KernelIdeal.sig Kind.scVector Space.vmem Cert.KernelIdeal.S2x128 EltTy.i32)
local notation "rB" => (Memref.whole Cert.KernelIdeal.cc1_scratch1 : Memref Cert.KernelIdeal.sig Kind.scVector Space.vmem Cert.KernelIdeal.S256x2x128 EltTy.f32)
local notation "gB" => (Memref.whole Cert.KernelIdeal.cc1_scratch2 : Memref Cert.KernelIdeal.sig Kind.scVector Space.vmem Cert.KernelIdeal.S256 EltTy.f32)
local notation "aB" => (Memref.whole Cert.KernelIdeal.cc1_scratch3 : Memref Cert.KernelIdeal.sig Kind.scVector Space.vmem Cert.KernelIdeal.S16 EltTy.f32)

section Tile

variable (d : Dev nD) (L : grid1.Coords)
variable [FloatOps F]
variable (ia : Dev nD → S64x128.Idx → BitVec 32) (ta : Dev nD → S2048x2x128.Idx → F .f32) (sa : Dev nD → S2048.Idx → F .f32)

/-! ## The two gathers of a kind, as one batch of 256 copies -/

def rLoBack (q qa : PosShare TreeShare) (tf : S2048x2x128.Idx → F .f32) (fr : S256x2x128.Idx → F .f32) (lv : S2x128.Idx → BitVec 32) (h : ∀ x, ((lLo).view.read (Elt F) lv x).toNat < 2048) : Fin 128 → sProp 𝕄 :=
  GatherBatch.rowBack (F := F) (tileThr d L) tAll rLo gathers_S2048x2x128_S128x2x128 lLo rfl (by decide) q qa tf fr lv h
instance rLoBack_storable (q qa : PosShare TreeShare) (tf : S2048x2x128.Idx → F .f32) (fr : S256x2x128.Idx → F .f32) (lv : S2x128.Idx → BitVec 32) (h : ∀ x, ((lLo).view.read (Elt F) lv x).toNat < 2048) (t : Fin 128) :
    Storable (upEmb : UEmb _ 𝕄) (rLoBack (F := F) d L q qa tf fr lv h t) :=
  GatherBatch.rowBack_storable (F := F) (tileThr d L) tAll rLo gathers_S2048x2x128_S128x2x128 lLo rfl (by decide) q qa tf fr lv h t
def rHiBack (q qa : PosShare TreeShare) (tf : S2048x2x128.Idx → F .f32) (fr : S256x2x128.Idx → F .f32) (lv : S2x128.Idx → BitVec 32) (h : ∀ x, ((lHi).view.read (Elt F) lv x).toNat < 2048) : Fin 128 → sProp 𝕄 :=
  GatherBatch.rowBack (F := F) (tileThr d L) tAll rHi gathers_S2048x2x128_S128x2x128 lHi rfl (by decide) q qa tf fr lv h
instance rHiBack_storable (q qa : PosShare TreeShare) (tf : S2048x2x128.Idx → F .f32) (fr : S256x2x128.Idx → F .f32) (lv : S2x128.Idx → BitVec 32) (h : ∀ x, ((lHi).view.read (Elt F) lv x).toNat < 2048) (t : Fin 128) :
    Storable (upEmb : UEmb _ 𝕄) (rHiBack (F := F) d L q qa tf fr lv h t) :=
  GatherBatch.rowBack_storable (F := F) (tileThr d L) tAll rHi gathers_S2048x2x128_S128x2x128 lHi rfl (by decide) q qa tf fr lv h t
theorem rLoBack_join (q qa : PosShare TreeShare) (tf : S2048x2x128.Idx → F .f32) (fr : S256x2x128.Idx → F .f32) (lv : S2x128.Idx → BitVec 32) (h : ∀ x, ((lLo).view.read (Elt F) lv x).toNat < 2048) :
    (bigSep Finset.univ (rLoBack (F := F) d L q qa tf fr lv h) : sProp 𝕄)
      ⊢ iprop(((rB).view.loc (tileThr d L) ↦[(rLo).view.set]{fullShare} rTarget lv tf)
          ∗ ((tAll).view.loc (tileThr d L) ↦[(tAll).view.set]{q} tf) ∗ ((lLo).view.loc (tileThr d L) ↦[(lLo).view.set]{qa} lv)) :=
  (GatherBatch.rowBack_join (F := F) (tileThr d L) tAll rLo gathers_S2048x2x128_S128x2x128 lLo rfl (by decide) q qa tf fr lv h).trans
    (BI.sep_mono (Entails.of_eq (pointsTo_congr (rLo_val lv tf fr rfl h))) (Entails.refl _))
theorem rHiBack_join (q qa : PosShare TreeShare) (tf : S2048x2x128.Idx → F .f32) (fr : S256x2x128.Idx → F .f32) (lv : S2x128.Idx → BitVec 32) (h : ∀ x, ((lHi).view.read (Elt F) lv x).toNat < 2048) :
    (bigSep Finset.univ (rHiBack (F := F) d L q qa tf fr lv h) : sProp 𝕄)
      ⊢ iprop(((rB).view.loc (tileThr d L) ↦[(rHi).view.set]{fullShare} rTarget lv tf)
          ∗ ((tAll).view.loc (tileThr d L) ↦[(tAll).view.set]{q} tf) ∗ ((lHi).view.loc (tileThr d L) ↦[(lHi).view.set]{qa} lv)) :=
  (GatherBatch.rowBack_join (F := F) (tileThr d L) tAll rHi gathers_S2048x2x128_S128x2x128 lHi rfl (by decide) q qa tf fr lv h).trans
    (BI.sep_mono (Entails.of_eq (pointsTo_congr (rHi_val lv tf fr rfl h))) (Entails.refl _))
/-- The copies of the two gathers of table rows, one after the other. -/
def rBack (q₁ q₂ qa qb : PosShare TreeShare) (tf : S2048x2x128.Idx → F .f32) (fr : S256x2x128.Idx → F .f32) (lv : S2x128.Idx → BitVec 32) (hv : ((∀ x, ((lLo).view.read (Elt F) lv x).toNat < 2048) ∧ (∀ x, ((lHi).view.read (Elt F) lv x).toNat < 2048))) : Fin (128 + 128) → sProp 𝕄 :=
  GatherBatch.two (rLoBack (F := F) d L q₁ qa tf fr lv hv.1) (rHiBack (F := F) d L q₂ qb tf fr lv hv.2)
instance rBack_storable (q₁ q₂ qa qb : PosShare TreeShare) (tf : S2048x2x128.Idx → F .f32) (fr : S256x2x128.Idx → F .f32) (lv : S2x128.Idx → BitVec 32) (hv : ((∀ x, ((lLo).view.read (Elt F) lv x).toNat < 2048) ∧ (∀ x, ((lHi).view.read (Elt F) lv x).toNat < 2048))) (t) :
    Storable (upEmb : UEmb _ 𝕄) (rBack (F := F) d L q₁ q₂ qa qb tf fr lv hv t) := by unfold rBack; infer_instance

/-- All copies delivered: the buffer holds the table rows the list names, and the shares read from are back. -/
theorem rBack_all (q₁ q₂ qa qb : PosShare TreeShare) (tf : S2048x2x128.Idx → F .f32) (fr : S256x2x128.Idx → F .f32) (lv : S2x128.Idx → BitVec 32) (hv : ((∀ x, ((lLo).view.read (Elt F) lv x).toNat < 2048) ∧ (∀ x, ((lHi).view.read (Elt F) lv x).toNat < 2048))) :
    (bigSep Finset.univ (rBack (F := F) d L q₁ q₂ qa qb tf fr lv hv) : sProp 𝕄)
      ⊢ iprop(((rB).view.loc (tileThr d L) ↦{fullShare} rTarget lv tf)
          ∗ (((tAll).view.loc (tileThr d L) ↦[(tAll).view.set]{q₁} tf) ∗ ((tAll).view.loc (tileThr d L) ↦[(tAll).view.set]{q₂} tf))
          ∗ (((lLo).view.loc (tileThr d L) ↦[(lLo).view.set]{qa} lv) ∗ ((lHi).view.loc (tileThr d L) ↦[(lHi).view.set]{qb} lv))) := by
  unfold rBack
  iintro H
  ihave H' := GatherBatch.bigSep_two _ _ $$ H
  icases H' with ⟨H1, H2⟩
  ihave J1 := (rLoBack_join (F := F) d L q₁ qa tf fr lv hv.1) $$ H1
  ihave J2 := (rHiBack_join (F := F) d L q₂ qb tf fr lv hv.2) $$ H2
  icases J1 with ⟨Hd1, Ht1, Hl1⟩
  icases J2 with ⟨Hd2, Ht2, Hl2⟩
  isplitl [Hd1 Hd2]
  · rw [pts_halves (F := F) (ℓ := (rB).view.loc (tileThr d L)) rHalves fullShare (rTarget lv tf)]
    isplitl [Hd1]
    · iexact Hd1
    · iexact Hd2
  isplitl [Ht1 Ht2]
  · isplitl [Ht1] <;> iassumption
  · isplitl [Hl1] <;> iassumption

def gLoBack (q qa : PosShare TreeShare) (sf : S2048.Idx → F .f32) (fg : S256.Idx → F .f32) (lv : S2x128.Idx → BitVec 32) (h : ∀ x, ((lLo).view.read (Elt F) lv x).toNat < 2048) : Fin 128 → sProp 𝕄 :=
  GatherBatch.rowBack (F := F) (tileThr d L) sAll gLo gathers_S2048_S128 lLo rfl (by decide) q qa sf fg lv h
instance gLoBack_storable (q qa : PosShare TreeShare) (sf : S2048.Idx → F .f32) (fg : S256.Idx → F .f32) (lv : S2x128.Idx → BitVec 32) (h : ∀ x, ((lLo).view.read (Elt F) lv x).toNat < 2048) (t : Fin 128) :
    Storable (upEmb : UEmb _ 𝕄) (gLoBack (F := F) d L q qa sf fg lv h t) :=
  GatherBatch.rowBack_storable (F := F) (tileThr d L) sAll gLo gathers_S2048_S128 lLo rfl (by decide) q qa sf fg lv h t
def gHiBack (q qa : PosShare TreeShare) (sf : S2048.Idx → F .f32) (fg : S256.Idx → F .f32) (lv : S2x128.Idx → BitVec 32) (h : ∀ x, ((lHi).view.read (Elt F) lv x).toNat < 2048) : Fin 128 → sProp 𝕄 :=
  GatherBatch.rowBack (F := F) (tileThr d L) sAll gHi gathers_S2048_S128 lHi rfl (by decide) q qa sf fg lv h
instance gHiBack_storable (q qa : PosShare TreeShare) (sf : S2048.Idx → F .f32) (fg : S256.Idx → F .f32) (lv : S2x128.Idx → BitVec 32) (h : ∀ x, ((lHi).view.read (Elt F) lv x).toNat < 2048) (t : Fin 128) :
    Storable (upEmb : UEmb _ 𝕄) (gHiBack (F := F) d L q qa sf fg lv h t) :=
  GatherBatch.rowBack_storable (F := F) (tileThr d L) sAll gHi gathers_S2048_S128 lHi rfl (by decide) q qa sf fg lv h t
theorem gLoBack_join (q qa : PosShare TreeShare) (sf : S2048.Idx → F .f32) (fg : S256.Idx → F .f32) (lv : S2x128.Idx → BitVec 32) (h : ∀ x, ((lLo).view.read (Elt F) lv x).toNat < 2048) :
    (bigSep Finset.univ (gLoBack (F := F) d L q qa sf fg lv h) : sProp 𝕄)
      ⊢ iprop(((gB).view.loc (tileThr d L) ↦[(gLo).view.set]{fullShare} gTarget lv sf)
          ∗ ((sAll).view.loc (tileThr d L) ↦[(sAll).view.set]{q} sf) ∗ ((lLo).view.loc (tileThr d L) ↦[(lLo).view.set]{qa} lv)) :=
  (GatherBatch.rowBack_join (F := F) (tileThr d L) sAll gLo gathers_S2048_S128 lLo rfl (by decide) q qa sf fg lv h).trans
    (BI.sep_mono (Entails.of_eq (pointsTo_congr (gLo_val lv sf fg rfl h))) (Entails.refl _))
theorem gHiBack_join (q qa : PosShare TreeShare) (sf : S2048.Idx → F .f32) (fg : S256.Idx → F .f32) (lv : S2x128.Idx → BitVec 32) (h : ∀ x, ((lHi).view.read (Elt F) lv x).toNat < 2048) :
    (bigSep Finset.univ (gHiBack (F := F) d L q qa sf fg lv h) : sProp 𝕄)
      ⊢ iprop(((gB).view.loc (tileThr d L) ↦[(gHi).view.set]{fullShare} gTarget lv sf)
          ∗ ((sAll).view.loc (tileThr d L) ↦[(sAll).view.set]{q} sf) ∗ ((lHi).view.loc (tileThr d L) ↦[(lHi).view.set]{qa} lv)) :=
  (GatherBatch.rowBack_join (F := F) (tileThr d L) sAll gHi gathers_S2048_S128 lHi rfl (by decide) q qa sf fg lv h).trans
    (BI.sep_mono (Entails.of_eq (pointsTo_congr (gHi_val lv sf fg rfl h))) (Entails.refl _))
/-- The copies of the two gathers of row sums, one after the other. -/
def gBack (q₁ q₂ qa qb : PosShare TreeShare) (sf : S2048.Idx → F .f32) (fg : S256.Idx → F .f32) (lv : S2x128.Idx → BitVec 32) (hv : ((∀ x, ((lLo).view.read (Elt F) lv x).toNat < 2048) ∧ (∀ x, ((lHi).view.read (Elt F) lv x).toNat < 2048))) : Fin (128 + 128) → sProp 𝕄 :=
  GatherBatch.two (gLoBack (F := F) d L q₁ qa sf fg lv hv.1) (gHiBack (F := F) d L q₂ qb sf fg lv hv.2)
instance gBack_storable (q₁ q₂ qa qb : PosShare TreeShare) (sf : S2048.Idx → F .f32) (fg : S256.Idx → F .f32) (lv : S2x128.Idx → BitVec 32) (hv : ((∀ x, ((lLo).view.read (Elt F) lv x).toNat < 2048) ∧ (∀ x, ((lHi).view.read (Elt F) lv x).toNat < 2048))) (t) :
    Storable (upEmb : UEmb _ 𝕄) (gBack (F := F) d L q₁ q₂ qa qb sf fg lv hv t) := by unfold gBack; infer_instance

/-- All copies delivered: the buffer holds the row sums the list names, and the shares read from are back. -/
theorem gBack_all (q₁ q₂ qa qb : PosShare TreeShare) (sf : S2048.Idx → F .f32) (fg : S256.Idx → F .f32) (lv : S2x128.Idx → BitVec 32) (hv : ((∀ x, ((lLo).view.read (Elt F) lv x).toNat < 2048) ∧ (∀ x, ((lHi).view.read (Elt F) lv x).toNat < 2048))) :
    (bigSep Finset.univ (gBack (F := F) d L q₁ q₂ qa qb sf fg lv hv) : sProp 𝕄)
      ⊢ iprop(((gB).view.loc (tileThr d L) ↦{fullShare} gTarget lv sf)
          ∗ (((sAll).view.loc (tileThr d L) ↦[(sAll).view.set]{q₁} sf) ∗ ((sAll).view.loc (tileThr d L) ↦[(sAll).view.set]{q₂} sf))
          ∗ (((lLo).view.loc (tileThr d L) ↦[(lLo).view.set]{qa} lv) ∗ ((lHi).view.loc (tileThr d L) ↦[(lHi).view.set]{qb} lv))) := by
  unfold gBack
  iintro H
  ihave H' := GatherBatch.bigSep_two _ _ $$ H
  icases H' with ⟨H1, H2⟩
  ihave J1 := (gLoBack_join (F := F) d L q₁ qa sf fg lv hv.1) $$ H1
  ihave J2 := (gHiBack_join (F := F) d L q₂ qb sf fg lv hv.2) $$ H2
  icases J1 with ⟨Hd1, Ht1, Hl1⟩
  icases J2 with ⟨Hd2, Ht2, Hl2⟩
  isplitl [Hd1 Hd2]
  · rw [pts_halves (F := F) (ℓ := (gB).view.loc (tileThr d L)) gHalves fullShare (gTarget lv sf)]
    isplitl [Hd1]
    · iexact Hd1
    · iexact Hd2
  isplitl [Ht1 Ht2]
  · isplitl [Ht1] <;> iassumption
  · isplitl [Hl1] <;> iassumption

/-- A share is its left half and its right half. -/
theorem pts_share {ℓ : Loc nD τ sig} {I : Finset (Idx ℓ)} (q : PosShare TreeShare) (f : Buf (Elt F) ℓ) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-- A batch put aside while the run goes on to the next wait. -/
def Aside (P : sProp 𝕄) : sProp 𝕄 := P
theorem aside (P : sProp 𝕄) : P ⊢ Aside P := Entails.refl _
theorem aside_back (P : sProp 𝕄) : Aside P ⊢ P := Entails.refl _

set_option maxHeartbeats 4000000 in
theorem tile_body (hF : (K (F := F)).Facts) (hin : ∀ d x, (ia d x).toNat < 2048) (O : CellTallies nD τ sig (HIx 1)) (W : Waits sig (HIx 1)) (hO : ∀ g, O g none = 0) :
    iprop(levAts (K (F := F)).L (K (F := F)).lev ∗ emp
        ∗ tileIn ia ta sa d (wL L)
        ∗ scopedBufs (tileThr d L) ∗ scopedSems0 (tileThr d L) ∗ owes (tileThr d L) O W)
      ⊢ wp frame (wpE (defs₀ (F := F)) 𝒱₀ (tileThr d L) none) Set.univ
          (cc1__sc_gather L iV (Memref.isWhole_whole _) tV (Memref.isWhole_whole _) sV (Memref.isWhole_whole _) eV (Memref.isWhole_whole _) pV (Memref.isWhole_whole _)
            lB (Memref.isWhole_whole _) rB (Memref.isWhole_whole _) gB (Memref.isWhole_whole _) aB (Memref.isWhole_whole _)
            cc1_scratch4 cc1_scratch5 cc1_scoped0 cc1_scoped1 cc1_scoped2)
          fun _ => iprop(tileOut ia ta sa d (wL L)
            ∗ scopedBufs (tileThr d L) ∗ scopedSems0 (tileThr d L)
            ∗ ∃ W', ⌜∀ p ∈ W', p ∈ W ∨ p.2 = none⌝ ∗ owes (tileThr d L) O W') := by
  simp only [cc1__sc_gather_eq_skeleton]; unfold cc1__sc_gather_skel
  simp only [k1_part1_eq_skeleton, k1_part2_eq_skeleton, k1_part3_eq_skeleton]; unfold k1_part1_skel k1_part2_skel k1_part3_skel
  rw [(K (F := F)).scopedBufs_V hF d (cV L) (jV L), SparseCore.Cfg.scopedSems0_V (Val := Elt F) d (cV L) (jV L), ownSems0_V, ownBufs_V]
  unfold tileIn tileOut
  iintro ⟨#Hlv, -, ⟨Hi, Ht, Hs, ⟨%fe, He⟩, ⟨%fp, Hp⟩⟩, ⟨⟨%fl, Hl⟩, ⟨%fr, Hr⟩, ⟨%fg, Hg⟩, ⟨%fa, Ha⟩, Hbufs⟩, ⟨HsemR, HsemG, HsemA, HsemB, HsemC, Hsems⟩, HO⟩
  ihave Hmw := (show levAts (K (F := F)).L (K (F := F)).lev ⊢ Transfers.MayWaits (tileThr d L) (default : HIx 1) O from
    (K (F := F)).mayWaits_none (thr := tileThr d L) hO) $$ Hlv
  ihave Hi' := (Entails.of_eq (show (iLoc d ↦{rq (wL L)} (ia d : Buf (Elt F) (iLoc d)) : sProp 𝕄) = ((iV).view.loc (tileThr d L) ↦{rq (wL L)} (ia d : Buf (Elt F) (iLoc d))) from rfl)) $$ Hi
  ihave Hl' := (Entails.of_eq (show ((tileThr d L).loc cc1_scratch0 ↦{fullShare} fl : sProp 𝕄) = ((lB).view.loc (tileThr d L) ↦{fullShare} fl) from rfl)) $$ Hl
  sl_exec
  have hlv : (Memref.whole cc1_scratch0).view.write (Elt F) fl (tile_body.sl.dma0 d L ia) Finset.univ = lst (ia d) L := by
    rw [View.write_whole_univ]; rfl
  have hv := mem_of_toNat_lt (F := F) (lst (ia d) L) (fun x => hin d _)
  ihave Hl := (Entails.of_eq (show ((View.loc (tileThr d L) (Memref.whole cc1_scratch0).view ↦{fullShare} (Memref.whole cc1_scratch0).view.write (Elt F) fl (tile_body.sl.dma0 d L ia) Finset.univ : sProp 𝕄))
      = iprop((((lLo).view.loc (tileThr d L) ↦[(lLo).view.set]{fullShare.left} lst (ia d) L) ∗ ((lLo).view.loc (tileThr d L) ↦[(lLo).view.set]{fullShare.right} lst (ia d) L))
        ∗ (((lHi).view.loc (tileThr d L) ↦[(lHi).view.set]{fullShare.left} lst (ia d) L) ∗ ((lHi).view.loc (tileThr d L) ↦[(lHi).view.set]{fullShare.right} lst (ia d) L))) from by
    rw [hlv, pts_halves lHalves]
    exact congrArg₂ (fun a b : sProp 𝕄 => iprop(a ∗ b)) (pts_share _ _) (pts_share _ _))) $$ Hl'
  icases Hl with ⟨⟨Hl1, Hl2⟩, ⟨Hl3, Hl4⟩⟩
  ihave Ht' := (Entails.of_eq (show (tLoc d ↦{rq (wL L)} (ta d : Buf (Elt F) (tLoc d)) : sProp 𝕄)
      = iprop(((tAll).view.loc (tileThr d L) ↦[(tAll).view.set]{(rq (wL L)).left} (ta d)) ∗ ((tAll).view.loc (tileThr d L) ↦[(tAll).view.set]{(rq (wL L)).right} (ta d))) from by
    rw [set_tAll, ← pts_share])) $$ Ht
  icases Ht' with ⟨Ht1, Ht2⟩
  ihave Hs' := (Entails.of_eq (show (sLoc d ↦{rq (wL L)} (sa d : Buf (Elt F) (sLoc d)) : sProp 𝕄)
      = iprop(((sAll).view.loc (tileThr d L) ↦[(sAll).view.set]{(rq (wL L)).left} (sa d)) ∗ ((sAll).view.loc (tileThr d L) ↦[(sAll).view.set]{(rq (wL L)).right} (sa d))) from by
    rw [set_sAll, ← pts_share])) $$ Hs
  icases Hs' with ⟨Hs1, Hs2⟩
  ihave Hr' := (Entails.of_eq (show ((tileThr d L).loc cc1_scratch1 ↦{fullShare} fr : sProp 𝕄)
      = iprop(((rLo).view.loc (tileThr d L) ↦[(rLo).view.set]{fullShare} fr) ∗ ((rHi).view.loc (tileThr d L) ↦[(rHi).view.set]{fullShare} fr)) from pts_halves rHalves _ _)) $$ Hr
  icases Hr' with ⟨Hr1, Hr2⟩
  ihave Hg' := (Entails.of_eq (show ((tileThr d L).loc cc1_scratch2 ↦{fullShare} fg : sProp 𝕄)
      = iprop(((gLo).view.loc (tileThr d L) ↦[(gLo).view.set]{fullShare} fg) ∗ ((gHi).view.loc (tileThr d L) ↦[(gHi).view.set]{fullShare} fg)) from pts_halves gHalves _ _)) $$ Hg
  icases Hg' with ⟨Hg1, Hg2⟩
  imod (Transfers.batch_alloc' (countersEmb) (tileThr d L) (default : HIx 1) rN (rBack (F := F) d L (rq (wL L)).left (rq (wL L)).right fullShare.left fullShare.left (ta d) fr (lst (ia d) L) hv)) $$ HsemR with HbR
  imod (Transfers.batch_alloc' (countersEmb) (tileThr d L) (default : HIx 1) gN (gBack (F := F) d L (rq (wL L)).left (rq (wL L)).right fullShare.right fullShare.right (sa d) fg (lst (ia d) L) hv)) $$ HsemG with HbG
  iapply (GatherBatch.wp_gatherBatch countersEmb 𝒱₀ (tileThr d L) none (n := 128 + 128) (j := 0) (u := 0) (default : HIx 1) rN rLo_row (by decide) hv.1 (by decide) (Nat.zero_le _)
    (D := rBack (F := F) d L (rq (wL L)).left (rq (wL L)).right fullShare.left fullShare.left (ta d) fr (lst (ia d) L) hv)
    (fun i => Entails.of_eq (GatherBatch.two_lo (o := 128) (o' := 128) _ _ i _).symm)) $$ [Ht1 Hr1 Hl1 HbR]
  · isplitl [Ht1]; · iexact Ht1
    isplitl [Hr1]; · iexact Hr1
    isplitl [Hl1]; · iexact Hl1
    iexact HbR
  iintro HbR
  sl_exec
  iapply (GatherBatch.wp_gatherBatch countersEmb 𝒱₀ (tileThr d L) none (n := 128 + 128) (j := 128) (u := 0) (default : HIx 1) rN rHi_row (by decide) hv.2 (by decide) (Nat.zero_le _)
    (D := rBack (F := F) d L (rq (wL L)).left (rq (wL L)).right fullShare.left fullShare.left (ta d) fr (lst (ia d) L) hv)
    (fun i => Entails.of_eq (GatherBatch.two_hi (o := 128) (o' := 128) _ _ i _).symm)) $$ [Ht2 Hr2 Hl3 HbR]
  · isplitl [Ht2]; · iexact Ht2
    isplitl [Hr2]; · iexact Hr2
    isplitl [Hl3]; · iexact Hl3
    iexact HbR
  iintro HbR
  sl_exec
  iapply (GatherBatch.wp_gatherBatch countersEmb 𝒱₀ (tileThr d L) none (n := 128 + 128) (j := 0) (u := 0) (default : HIx 1) gN gLo_row (by decide) hv.1 (by decide) (Nat.zero_le _)
    (D := gBack (F := F) d L (rq (wL L)).left (rq (wL L)).right fullShare.right fullShare.right (sa d) fg (lst (ia d) L) hv)
    (fun i => Entails.of_eq (GatherBatch.two_lo (o := 128) (o' := 128) _ _ i _).symm)) $$ [Hs1 Hg1 Hl2 HbG]
  · isplitl [Hs1]; · iexact Hs1
    isplitl [Hg1]; · iexact Hg1
    isplitl [Hl2]; · iexact Hl2
    iexact HbG
  iintro HbG
  sl_exec
  iapply (GatherBatch.wp_gatherBatch countersEmb 𝒱₀ (tileThr d L) none (n := 128 + 128) (j := 128) (u := 0) (default : HIx 1) gN gHi_row (by decide) hv.2 (by decide) (Nat.zero_le _)
    (D := gBack (F := F) d L (rq (wL L)).left (rq (wL L)).right fullShare.right fullShare.right (sa d) fg (lst (ia d) L) hv)
    (fun i => Entails.of_eq (GatherBatch.two_hi (o := 128) (o' := 128) _ _ i _).symm)) $$ [Hs2 Hg2 Hl4 HbG]
  · isplitl [Hs2]; · iexact Hs2
    isplitl [Hg2]; · iexact Hg2
    isplitl [Hl4]; · iexact Hl4
    iexact HbG
  iintro HbG
  ihave HbG := (aside _) $$ HbG
  ihave HbR := (aside _) $$ HbR
  sl_exec
  ihave HbR := (aside_back _) $$ HbR
  ihave HmR := (Transfers.MayWaits.elim (SemLoc.dma cc1_scratch4.sem)) $$ Hmw
  iapply (Transfers.wp_waitBatchMulO countersEmb 𝒱₀ (tileThr d L) none (default : HIx 1) (N := rN) 128 rLo_credit (by have := rN_pos; show 0 + 128 * rN ≤ rN * 256; omega)) $$ [HbR HO HmR]
  · isplitl [HbR]; · iexact HbR
    isplitl [HO]; · iexact HO
    iexact HmR
  iintro ⟨HbR, HO⟩
  ihave HbR := (aside _) $$ HbR
  sl_exec
  ihave HbR := (aside_back _) $$ HbR
  ihave HmR := (Transfers.MayWaits.elim (SemLoc.dma cc1_scratch4.sem)) $$ Hmw
  iapply (Transfers.wp_waitBatchAllO countersEmb 𝒱₀ (tileThr d L) none (default : HIx 1) (N := rN) rHi_credit rN_pos (n := 128 + 128)
    (D := rBack (F := F) d L (rq (wL L)).left (rq (wL L)).right fullShare.left fullShare.left (ta d) fr (lst (ia d) L) hv)
    (by have := rN_pos; show 0 + 128 * rN + 128 * rN = rN * 256; omega)) $$ [HbR HO HmR]
  · isplitl [HbR]; · iexact HbR
    isplitl [HO]; · iexact HO
    iexact HmR
  iintro ⟨HbR, HsemR, HO⟩
  ihave HR := (rBack_all (F := F) d L _ _ _ _ _ _ _ _) $$ HbR
  icases HR with ⟨Hr, ⟨Ht1, Ht2⟩, ⟨Hl1, Hl3⟩⟩
  sl_exec
  ihave HbG := (aside_back _) $$ HbG
  ihave HmG := (Transfers.MayWaits.elim (SemLoc.dma cc1_scratch5.sem)) $$ Hmw
  iapply (Transfers.wp_waitBatchMulO countersEmb 𝒱₀ (tileThr d L) none (default : HIx 1) (N := gN) 128 gLo_credit (by have := gN_pos; show 0 + 128 * gN ≤ gN * 256; omega)) $$ [HbG HO HmG]
  · isplitl [HbG]; · iexact HbG
    isplitl [HO]; · iexact HO
    iexact HmG
  iintro ⟨HbG, HO⟩
  ihave HbG := (aside _) $$ HbG
  sl_exec
  ihave HbG := (aside_back _) $$ HbG
  ihave HmG := (Transfers.MayWaits.elim (SemLoc.dma cc1_scratch5.sem)) $$ Hmw
  iapply (Transfers.wp_waitBatchAllO countersEmb 𝒱₀ (tileThr d L) none (default : HIx 1) (N := gN) gHi_credit gN_pos (n := 128 + 128)
    (D := gBack (F := F) d L (rq (wL L)).left (rq (wL L)).right fullShare.right fullShare.right (sa d) fg (lst (ia d) L) hv)
    (by have := gN_pos; show 0 + 128 * gN + 128 * gN = gN * 256; omega)) $$ [HbG HO HmG]
  · isplitl [HbG]; · iexact HbG
    isplitl [HO]; · iexact HO
    iexact HmG
  iintro ⟨HbG, HsemG, HO⟩
  ihave HG := (gBack_all (F := F) d L _ _ _ _ _ _ _ _) $$ HbG
  icases HG with ⟨Hg, ⟨Hs1, Hs2⟩, ⟨Hl2, Hl4⟩⟩
  ihave He' := (Entails.of_eq (pts_eRowK d L fe).symm) $$ He
  ihave Hp' := (Entails.of_eq (pts_pRowK d L fp).symm) $$ Hp
  ihave Ha' := (Entails.of_eq (show ((tileThr d L).loc cc1_scratch3 ↦{fullShare} fa : sProp 𝕄) = ((aB).view.loc (tileThr d L) ↦{fullShare} fa) from rfl)) $$ Ha
  sl_exec
  have hE : ∀ y ∈ (eRowK L).view.set, (eRowK L).view.writes (Elt F) fe [⟨Rect.whole S256x2x128, tile_body.sl.dma0_1 d L ia ta⟩] y = embOf (ia d) (ta d) y := by
    intro y hy
    obtain ⟨x, -, rfl⟩ := Finset.mem_map.mp hy
    refine Eq.trans ?_ (eRow_val L (ia d) (ta d) x)
    exact View.read_writes_cons_hit (eRowK L).view fe (Rect.whole S256x2x128) (tile_body.sl.dma0_1 d L ia ta) [] x x (Rect.emb_whole_apply S256x2x128 x)
  have hP : ∀ y ∈ (pRowK L).view.set, (pRowK L).view.writes (Elt F) fp [⟨Rect.whole S16, tile_body.sl.dma18 d L ia sa fa⟩] y = partsOf (ia d) (sa d) y := by
    intro y hy
    obtain ⟨x, -, rfl⟩ := Finset.mem_map.mp hy
    refine (View.read_writes_cons_hit (pRowK L).view fp (Rect.whole S16) (tile_body.sl.dma18 d L ia sa fa) [] x x (Rect.emb_whole_apply S16 x)).trans ?_
    unfold tile_body.sl.dma18 tile_body.sl.Ha'_1
    refine (View.read_writes_cons_hit (aB).view fa (Rect.unit (s := S16) ![0] ![16] inb_S16_S16_0) _ [] x x (funext fun a => Fin.ext (by
      match a with
      | 0 => show 0 + 1 * (x 0).val = (x 0).val; omega))).trans ?_
    rw [gTarget_read L (ia d) (sa d) 0 0 rfl, gTarget_read L (ia d) (sa d) 1 16 rfl, gTarget_read L (ia d) (sa d) 2 32 rfl, gTarget_read L (ia d) (sa d) 3 48 rfl,
      gTarget_read L (ia d) (sa d) 4 64 rfl, gTarget_read L (ia d) (sa d) 5 80 rfl, gTarget_read L (ia d) (sa d) 6 96 rfl, gTarget_read L (ia d) (sa d) 7 112 rfl,
      gTarget_read L (ia d) (sa d) 8 128 rfl, gTarget_read L (ia d) (sa d) 9 144 rfl, gTarget_read L (ia d) (sa d) 10 160 rfl, gTarget_read L (ia d) (sa d) 11 176 rfl,
      gTarget_read L (ia d) (sa d) 12 192 rfl, gTarget_read L (ia d) (sa d) 13 208 rfl, gTarget_read L (ia d) (sa d) 14 224 rfl]
    have h15 := gTarget_read L (ia d) (sa d) 15 240 rfl inb_S256_S16_240
    erw [h15]
    refine Eq.trans ?_ (congrArg (partsOf (ia d) (sa d)) ((congrArg (pRowK L).view.emb (eq_ix1 x)).trans (pRowK_emb L (x 0)))).symm
    exact congrArg (k1_pay1 _ _) (eq_ix1 x)
  sl_step
  isplitl [Hi' Ht1 Ht2 Hs1 Hs2 He' Hp']
  · isplitl [Hi']; · iexact Hi'
    isplitl [Ht1 Ht2]
    · iapply (Entails.of_eq (show (iprop(((tAll).view.loc (tileThr d L) ↦[(tAll).view.set]{(rq (wL L)).left} (ta d)) ∗ ((tAll).view.loc (tileThr d L) ↦[(tAll).view.set]{(rq (wL L)).right} (ta d))) : sProp 𝕄)
        = (tLoc d ↦{rq (wL L)} (ta d : Buf (Elt F) (tLoc d))) from by rw [set_tAll, ← pts_share])) $$ [Ht1 Ht2]
      isplitl [Ht1] <;> iassumption
    isplitl [Hs1 Hs2]
    · iapply (Entails.of_eq (show (iprop(((sAll).view.loc (tileThr d L) ↦[(sAll).view.set]{(rq (wL L)).left} (sa d)) ∗ ((sAll).view.loc (tileThr d L) ↦[(sAll).view.set]{(rq (wL L)).right} (sa d))) : sProp 𝕄)
        = (sLoc d ↦{rq (wL L)} (sa d : Buf (Elt F) (sLoc d))) from by rw [set_sAll, ← pts_share])) $$ [Hs1 Hs2]
      isplitl [Hs1] <;> iassumption
    isplitl [He']
    · iapply (Entails.of_eq ((pointsTo_congr hE).trans (pts_eRowK d L (embOf (ia d) (ta d))))) $$ He'
    · iapply (Entails.of_eq ((pointsTo_congr hP).trans (pts_pRowK d L (partsOf (ia d) (sa d))))) $$ Hp'
  isplitl [Hl1 Hl2 Hl3 Hl4 Hr Hg Ha' Hbufs]
  · isplitl [Hl1 Hl2 Hl3 Hl4]
    · iexists (lst (ia d) L)
      iapply (Entails.of_eq (show (iprop((((lLo).view.loc (tileThr d L) ↦[(lLo).view.set]{fullShare.left} lst (ia d) L) ∗ ((lLo).view.loc (tileThr d L) ↦[(lLo).view.set]{fullShare.right} lst (ia d) L))
          ∗ (((lHi).view.loc (tileThr d L) ↦[(lHi).view.set]{fullShare.left} lst (ia d) L) ∗ ((lHi).view.loc (tileThr d L) ↦[(lHi).view.set]{fullShare.right} lst (ia d) L))) : sProp 𝕄)
          = ((tileThr d L).loc cc1_scratch0 ↦{fullShare} lst (ia d) L) from
        ((pts_halves lHalves _ _).trans (congrArg₂ (fun a b : sProp 𝕄 => iprop(a ∗ b)) (pts_share _ _) (pts_share _ _))).symm))
      isplitl [Hl1 Hl2]
      · isplitl [Hl1] <;> iassumption
      · isplitl [Hl3] <;> iassumption
    isplitl [Hr]; · iexists _; iexact Hr
    isplitl [Hg]; · iexists _; iexact Hg
    isplitl [Ha']; · iexists _; iexact Ha'
    iexact Hbufs
  isplitl [HsemR HsemG HsemA HsemB HsemC Hsems]
  · isplitl [HsemR]; · iexact HsemR
    isplitl [HsemG]; · iexact HsemG
    isplitl [HsemA]; · iexact HsemA
    isplitl [HsemB]; · iexact HsemB
    isplitl [HsemC]; · iexact HsemC
    iexact Hsems
  iexists _; isplitr
  swap; · iexact HO
  ipureintro
  intro p hp
  repeat (rcases Finset.mem_insert.mp hp with hp | hp; · exact .inr (hp ▸ rfl))
  exact .inl hp

end Tile

end Cert.Proof

end
-- ==== Proof.ScCall.lean ====
/-
  The SparseCore call as the launch theorem takes it: what the call is handed and brings back, the tiles' obligation,
  and the operands' split into the thirty-two tiles' shares.
-/
module

public import proofs.«01_k».proof.Proof.TileBody

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Call

variable (ia : Dev nD → S64x128.Idx → BitVec 32) (ta : Dev nD → S2048x2x128.Idx → F .f32) (sa : Dev nD → S2048.Idx → F .f32)

/-- The number of the tile that runs task `i` of SparseCore `c`. -/
abbrev widK (c : Fin ((K (F := F)).nCore 0)) (i : Fin ((K (F := F)).nSub 0)) : Fin 32 := wid (Fin.cast nCore_zero c) (Fin.cast nSub_zero i)

/-- The call's contract: every task is handed `tileIn` and brings back `tileOut`; a SparseCore's part is its sixteen tasks'. -/
def P [FloatOps F] : (K (F := F)).Pay (nD := nD) (Val := Elt F) (Name := ℕ) (U := UU) where
  st := fun q d c => match q with | 0 => bigSep Finset.univ fun i : Fin ((K (F := F)).nSub 0) => tileIn ia ta sa d (widK c i)
  dn := fun q d c => match q with | 0 => bigSep Finset.univ fun i : Fin ((K (F := F)).nSub 0) => tileOut ia ta sa d (widK c i)
  go := fun q d c i => match q with | 0 => tileIn ia ta sa d (widK c i)
  td := fun q d c i => match q with | 0 => tileOut ia ta sa d (widK c i)
  x := fun _ _ => iprop(emp)

instance P_storable [FloatOps F] : (P (F := F) ia ta sa).IsStorable where
  st q d c := match q with
    | 0 => (inferInstance : BI.Storable (upEmb : UEmb _ 𝕄) (bigSep Finset.univ fun i : Fin ((K (F := F)).nSub 0) => tileIn ia ta sa d (widK c i)))
  dn q d c := match q with
    | 0 => (inferInstance : BI.Storable (upEmb : UEmb _ 𝕄) (bigSep Finset.univ fun i : Fin ((K (F := F)).nSub 0) => tileOut ia ta sa d (widK c i)))
  go q d c i := match q with
    | 0 => (inferInstance : BI.Storable (upEmb : UEmb _ 𝕄) (tileIn ia ta sa d (widK c i)))
  td q d c i := match q with
    | 0 => (inferInstance : BI.Storable (upEmb : UEmb _ 𝕄) (tileOut ia ta sa d (widK c i)))

variable [FloatOps F]

/-! ## The tasks -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather (coordsV c s)
          (Memref.whole main_v6_scv) (Memref.isWhole_whole _) (Memref.whole main_v7_scv) (Memref.isWhole_whole _) (Memref.whole main_v8_scv) (Memref.isWhole_whole _)
          (Memref.whole main_v9_0_scv) (Memref.isWhole_whole _) (Memref.whole main_v9_1_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task meets its contract, whichever its SparseCore and its tile, once every row number names a row. -/
theorem tileObl (hin : ∀ d x, (ia d x).toNat < 2048) : (K (F := F)).TileObl (D (F := F)) 𝒱 (P ia ta sa) v₀ 0 := by
  intro d c i O W hO _ _
  simp only [show (P (F := F) ia ta sa).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) ia ta sa facts hin O W hO).trans (wp_mono frame _ _ fun _ => obl_post)

/-- A SparseCore's part is its tasks'. -/
theorem vecSplit : (K (F := F)).VecSplit' (P ia ta sa) 0 := by
  intro d c
  show (bigSep Finset.univ fun i : Fin ((K (F := F)).nSub 0) => tileIn ia ta sa d (widK c i)) ⊢ |={Set.univ}=> iprop(
      (bigSep Finset.univ fun i : Fin ((K (F := F)).nSub 0) => tileIn ia ta sa d (widK c i))
      ∗ ((bigSep Finset.univ fun i : Fin ((K (F := F)).nSub 0) => tileOut ia ta sa d (widK c i))
          -∗ (bigSep Finset.univ fun i : Fin ((K (F := F)).nSub 0) => tileOut ia ta sa d (widK c i))))
  iintro H; imodintro
  isplitl [H]; · iexact H
  iintro H; iexact H

/-! ## The whole arrays as the tiles' shares and pieces -/

omit [FloatOps F] in
theorem eSet_eq (w : Fin 32) : eSet w = (eRow w).set := by
  show ((View.whole (main_v9_0_scv : Ref sig .scVector)).slice (eRow w)).set = _
  rw [View.set_slice]; exact Finset.map_refl
omit [FloatOps F] in
theorem pSet_eq (w : Fin 32) : pSet w = (pRow w).set := by
  show ((View.whole (main_v9_1_scv : Ref sig .scVector)).slice (pRow w)).set = _
  rw [View.set_slice]; exact Finset.map_refl
omit [FloatOps F] in
theorem eRows_disjoint : ∀ i ∈ (Finset.univ : Finset (Fin 32)), ∀ j ∈ (Finset.univ : Finset (Fin 32)), i ≠ j → Disjoint (eSet i) (eSet j) :=
  fun i _ j _ h => by rw [eSet_eq, eSet_eq]; exact Rect.part_disjoint ediv h
omit [FloatOps F] in
theorem pRows_disjoint : ∀ i ∈ (Finset.univ : Finset (Fin 32)), ∀ j ∈ (Finset.univ : Finset (Fin 32)), i ≠ j → Disjoint (pSet i) (pSet j) :=
  fun i _ j _ h => by rw [pSet_eq, pSet_eq]; exact Rect.part_disjoint pdiv h
omit [FloatOps F] in
theorem eRows_cover : (Finset.univ : Finset (Fin 32)).biUnion eSet = Finset.univ :=
  (Finset.biUnion_congr rfl fun i _ => eSet_eq i).trans (Rect.biUnion_part ediv)
omit [FloatOps F] in
theorem pRows_cover : (Finset.univ : Finset (Fin 32)).biUnion pSet = Finset.univ :=
  (Finset.biUnion_congr rfl fun i _ => pSet_eq i).trans (Rect.biUnion_part pdiv)

omit [FloatOps F] in
theorem ePts_rows (d : Dev nD) (f : Buf (Elt F) (eLoc d)) :
    (eLoc d ↦{fullShare} f : sProp 𝕄) = bigSep Finset.univ fun w : Fin 32 => eLoc d ↦[eSet w]{fullShare} f := by
  rw [← pointsTo_biUnion Finset.univ (ℓ := eLoc d) eSet eRows_disjoint, eRows_cover]; try rfl
omit [FloatOps F] in
theorem pPts_rows (d : Dev nD) (f : Buf (Elt F) (pLoc d)) :
    (pLoc d ↦{fullShare} f : sProp 𝕄) = bigSep Finset.univ fun w : Fin 32 => pLoc d ↦[pSet w]{fullShare} f := by
  rw [← pointsTo_biUnion Finset.univ (ℓ := pLoc d) pSet pRows_disjoint, pRows_cover]; try rfl

/-- The thirty-two tiles, sixteen on each SparseCore. -/
def widEquiv : Fin 2 × Fin 16 ≃ Fin 32 where
  toFun p := wid p.1 p.2
  invFun w := (⟨w.val % 2, by omega⟩, ⟨w.val / 2, by omega⟩)
  left_inv := by decide
  right_inv := by decide

omit [FloatOps F] in
theorem bigSep_tiles (Φ : Fin 32 → sProp 𝕄) :
    (bigSep Finset.univ fun c : Fin ((K (F := F)).nCore 0) => bigSep Finset.univ fun i : Fin ((K (F := F)).nSub 0) => Φ (widK c i)) = bigSep Finset.univ Φ := by
  rw [bigSep_univ_equiv widEquiv Φ, bigSep_univ_prod]
  rfl

/-- What the call starts from: the three operands, and the two results' arrays at anything. -/
def callIn (d : Dev nD) : sProp 𝕄 :=
  iprop((iLoc d ↦{fullShare} (ia d : Buf (Elt F) (iLoc d))) ∗ (tLoc d ↦{fullShare} (ta d : Buf (Elt F) (tLoc d))) ∗ (sLoc d ↦{fullShare} (sa d : Buf (Elt F) (sLoc d)))
    ∗ (∃ f, eLoc d ↦{fullShare} f) ∗ (∃ f, pLoc d ↦{fullShare} f))

/-- What the call leaves: the operands as they were, the results at their values. -/
def callOut (d : Dev nD) : sProp 𝕄 :=
  iprop((iLoc d ↦{fullShare} (ia d : Buf (Elt F) (iLoc d))) ∗ (tLoc d ↦{fullShare} (ta d : Buf (Elt F) (tLoc d))) ∗ (sLoc d ↦{fullShare} (sa d : Buf (Elt F) (sLoc d)))
    ∗ (eLoc d ↦{fullShare} (embOf (ia d) (ta d) : Buf (Elt F) (eLoc d)))
    ∗ (pLoc d ↦{fullShare} (partsOf (ia d) (sa d) : Buf (Elt F) (pLoc d))))

omit [FloatOps F] in
theorem eSome (d : Dev nD) (w : Fin 32) (f : Buf (Elt F) (eLoc d)) : (eLoc d ↦[eSet w]{fullShare} f : sProp 𝕄) ⊢ iprop(∃ f, eLoc d ↦[eSet w]{fullShare} f) := by
  iintro H; iexists f; iexact H
omit [FloatOps F] in
theorem pSome (d : Dev nD) (w : Fin 32) (f : Buf (Elt F) (pLoc d)) : (pLoc d ↦[pSet w]{fullShare} f : sProp 𝕄) ⊢ iprop(∃ f, pLoc d ↦[pSet w]{fullShare} f) := by
  iintro H; iexists f; iexact H

theorem callIn_split (d : Dev nD) : callIn ia ta sa d ⊢ bigSep Finset.univ fun c : Fin ((K (F := F)).nCore 0) => (P ia ta sa).st 0 d c := by
  show _ ⊢ bigSep Finset.univ fun c : Fin ((K (F := F)).nCore 0) => bigSep Finset.univ fun i : Fin ((K (F := F)).nSub 0) => tileIn ia ta sa d (widK c i)
  rw [bigSep_tiles (tileIn ia ta sa d)]
  unfold tileIn callIn
  rw [bigSep_sep', bigSep_sep', bigSep_sep', bigSep_sep']
  iintro ⟨Hi, Ht, Hs, ⟨%fe, He⟩, ⟨%fp, Hp⟩⟩
  isplitl [Hi]; · iapply (Entails.of_eq (pointsTo_leaves Finset.univ (ia d : Buf (Elt F) (iLoc d)) 5 fullShare)) $$ Hi
  isplitl [Ht]; · iapply (Entails.of_eq (pointsTo_leaves Finset.univ (ta d : Buf (Elt F) (tLoc d)) 5 fullShare)) $$ Ht
  isplitl [Hs]; · iapply (Entails.of_eq (pointsTo_leaves Finset.univ (sa d : Buf (Elt F) (sLoc d)) 5 fullShare)) $$ Hs
  isplitl [He]
  · iapply (show (eLoc d ↦{fullShare} fe : sProp 𝕄) ⊢ bigSep Finset.univ fun w : Fin 32 => iprop(∃ f, eLoc d ↦[eSet w]{fullShare} f) from by
      rw [ePts_rows]; exact bigSep_mono fun w _ => eSome d w fe) $$ He
  · iapply (show (pLoc d ↦{fullShare} fp : sProp 𝕄) ⊢ bigSep Finset.univ fun w : Fin 32 => iprop(∃ f, pLoc d ↦[pSet w]{fullShare} f) from by
      rw [pPts_rows]; exact bigSep_mono fun w _ => pSome d w fp) $$ Hp

theorem callOut_join (d : Dev nD) : (bigSep Finset.univ fun c : Fin ((K (F := F)).nCore 0) => (P ia ta sa).dn 0 d c) ⊢ callOut ia ta sa d := by
  show (bigSep Finset.univ fun c : Fin ((K (F := F)).nCore 0) => bigSep Finset.univ fun i : Fin ((K (F := F)).nSub 0) => tileOut ia ta sa d (widK c i)) ⊢ _
  rw [bigSep_tiles (tileOut ia ta sa d)]
  unfold tileOut callOut
  rw [bigSep_sep', bigSep_sep', bigSep_sep', bigSep_sep', ePts_rows, pPts_rows]
  iintro ⟨Hi, Ht, Hs, He, Hp⟩
  isplitl [Hi]; · iapply (Entails.of_eq (pointsTo_leaves Finset.univ (ia d : Buf (Elt F) (iLoc d)) 5 fullShare).symm) $$ Hi
  isplitl [Ht]; · iapply (Entails.of_eq (pointsTo_leaves Finset.univ (ta d : Buf (Elt F) (tLoc d)) 5 fullShare).symm) $$ Ht
  isplitl [Hs]; · iapply (Entails.of_eq (pointsTo_leaves Finset.univ (sa d : Buf (Elt F) (sLoc d)) 5 fullShare).symm) $$ Hs
  isplitl [He]; · iexact He
  iexact Hp

end Call

end Cert.Proof

end
-- ==== Proof.Run.lean ====
/-
  The program's run: the host operations, the TensorCore call as a region, the SparseCore call, the host operations
  after it; every buffer's contents named from the launch memory.
-/
module

public import proofs.«01_k».proof.Proof.Region
public import proofs.«01_k».proof.Proof.ScCall

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)

variable {F : FTy → Type} [FloatOps F]

local notation "𝕄" => MT nD τ sig (HIx 1) (Elt F) ℕ UU ℕ

/-! ## The host operations -/

/-- The operations before the TensorCore call. -/
def ops1 : List (HloOp τ sig (Elt F)) :=
  [StableHlo.binary main_arg2 main_arg2 main_v0 (mulf : (⟨S2048x256, .f32⟩ : BufTy).Contents (Elt F) → (⟨S2048x256, .f32⟩ : BufTy).Contents (Elt F) → (⟨S2048x256, .f32⟩ : BufTy).Contents (Elt F)),
   StableHlo.nullary main_cst (constant S_ .f32 0x00000000#32),
   StableHlo.binary main_v0 main_cst main_v1 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
   StableHlo.reshape main_arg4 main_v2 (rfl : (.f32 : EltTy) = .f32) shapeCasts_S256_S1x256,
   StableHlo.reshape main_arg1 main_v3 (rfl : (.f32 : EltTy) = .f32) shapeCasts_S16x1024x256_S16x512x512,
   StableHlo.reshape main_v1 main_v4 (rfl : (.f32 : EltTy) = .f32) shapeCasts_S2048_S1x2048]

/-- The operations between the two calls. -/
def ops2 : List (HloOp τ sig (Elt F)) :=
  [StableHlo.reshape main_v5_0 main_v6 (rfl : (.i32 : EltTy) = .i32) shapeCasts_S8x1x1024_S64x128,
   StableHlo.reshape main_arg2 main_v7 (rfl : (.f32 : EltTy) = .f32) shapeCasts_S2048x256_S2048x2x128,
   StableHlo.reshape main_v5_1 main_v8 (rfl : (.f32 : EltTy) = .f32) shapeCasts_S1x2048_S2048]

/-- The operations after the SparseCore call. -/
def ops3 : List (HloOp τ sig (Elt F)) :=
  [StableHlo.nullary main_cst_0 (constant S_ .f32 0x00000000#32),
   StableHlo.binary main_v9_1 main_cst_0 main_v10 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.nullary main_cst_1 (constant S_ .f32 0x35000000#32),
   StableHlo.binary main_v10 main_cst_1 main_v11 (mulf : (⟨S_, .f32⟩ : BufTy).Contents (Elt F) → (⟨S_, .f32⟩ : BufTy).Contents (Elt F) → (⟨S_, .f32⟩ : BufTy).Contents (Elt F)),
   StableHlo.reshape main_v5_0 main_v12 (rfl : (.i32 : EltTy) = .i32) shapeCasts_S8x1x1024_S16x512,
   StableHlo.reshape main_v9_0 main_v13 (rfl : (.f32 : EltTy) = .f32) shapeCasts_S8192x2x128_S16x512x256,
   StableHlo.reshape main_v11 main_v14 (rfl : (.f32 : EltTy) = .f32) shapeCasts_S_S_]

/-- The program is the three lines of host operations around the two calls. -/
theorem main_eq (d : Dev nD) : main (F := F) d
    = (seq ops1 >>= fun _ => (Prog.lift (.customCall (SparseCore.inner (Pipeline.entry 0)) ()) >>= fun _ =>
        (seq ops2 >>= fun _ => (sc.run d 0 >>= fun _ => (seq ops3 >>= fun _ => pure ⟨⟩))))) := by
  simp only [main, ops1, ops2, ops3, seq, bind_assoc, pure_bind]

/-! ## The contents of every buffer along the run -/

/-- A valuation with one buffer's contents replaced. -/
def put (W : Valuation τ sig (Elt F)) (r : Ref sig .tc) (x : r.ty.Contents (Elt F)) : Valuation τ sig (Elt F) :=
  Function.update W (Proc.devRef .tc r) x

theorem put_self (W : Valuation τ sig (Elt F)) (r : Ref sig .tc) (x : r.ty.Contents (Elt F)) : put W r x (Proc.devRef .tc r) = x :=
  Function.update_self _ _ _
theorem put_ne (W : Valuation τ sig (Elt F)) (r r' : Ref sig .tc) (x : r.ty.Contents (Elt F)) (h : r' ≠ r) :
    put W r x (Proc.devRef .tc r') = W (Proc.devRef .tc r') :=
  Function.update_of_ne (StableHlo.devRef_ne_of_ne h) _ _

variable (m : (ℓ : Loc nD τ sig) → Buf (Elt F) ℓ) (ρ : Dev nD → PrngReg)

/-- At the launch, -/
def V0 (d : Dev nD) : Valuation τ sig (Elt F) := fun b => m (d, b)
/-- after the first host operations, -/
def V1 (d : Dev nD) : Valuation τ sig (Elt F) := after ops1 (V0 m d)
/-- the same as the region reads it, -/
abbrev Va (d : Dev nD) (b : Ref sig .tc) : Buf (Elt F) ((d : Thread nD τ).loc b) := V1 m d b
/-- after the TensorCore call, -/
def V2 (d : Dev nD) : Valuation τ sig (Elt F) := put (put (V1 m d) main_v5_0 (idxArr (Va m) d)) main_v5_1 (sumArr (Va m) d)
/-- after the operations between the calls, -/
def V3 (d : Dev nD) : Valuation τ sig (Elt F) := after ops2 (V2 m d)
/-- the SparseCore call's three operands, -/
def ia (d : Dev nD) : S64x128.Idx → BitVec 32 := V3 m d main_v6
def ta (d : Dev nD) : S2048x2x128.Idx → F .f32 := V3 m d main_v7
def sa (d : Dev nD) : S2048.Idx → F .f32 := V3 m d main_v8
/-- after the SparseCore call, -/
def V4 (d : Dev nD) : Valuation τ sig (Elt F) :=
  put (put (V3 m d) main_v9_0 (embOf (ia m d) (ta m d))) main_v9_1 (partsOf (ia m d) (sa m d))
/-- and at the end. -/
def V5 (d : Dev nD) : Valuation τ sig (Elt F) := after ops3 (V4 m d)

/-- The unscoped buffers of a TensorCore. -/
abbrev ucRefs : Finset (DevRef τ sig) := Pipeline.ucRefs τ sig

theorem ops1_sub : (ops1 (F := F)).Forall fun op => op.bufs ⊆ StableHlo.tcRefs τ sig := ⟨StableHlo.binary_bufs_sub .., StableHlo.nullary_bufs_sub .., StableHlo.binary_bufs_sub .., StableHlo.reshape_bufs_sub .., StableHlo.reshape_bufs_sub .., StableHlo.reshape_bufs_sub ..⟩
theorem ops1_bufs : ∀ op ∈ ops1 (F := F), op.bufs ⊆ ucRefs := fun op h =>
  Pipeline.sub_ucRefs op (List.forall_iff_forall_mem.mp ops1_sub op h)
theorem ops2_sub : (ops2 (F := F)).Forall fun op => op.bufs ⊆ StableHlo.tcRefs τ sig := ⟨StableHlo.reshape_bufs_sub .., StableHlo.reshape_bufs_sub .., StableHlo.reshape_bufs_sub ..⟩
theorem ops2_bufs : ∀ op ∈ ops2 (F := F), op.bufs ⊆ ucRefs := fun op h =>
  Pipeline.sub_ucRefs op (List.forall_iff_forall_mem.mp ops2_sub op h)
theorem ops3_sub : (ops3 (F := F)).Forall fun op => op.bufs ⊆ StableHlo.tcRefs τ sig := ⟨StableHlo.nullary_bufs_sub .., StableHlo.binary_bufs_sub .., StableHlo.nullary_bufs_sub .., StableHlo.binary_bufs_sub .., StableHlo.reshape_bufs_sub .., StableHlo.reshape_bufs_sub .., StableHlo.reshape_bufs_sub ..⟩
theorem ops3_bufs : ∀ op ∈ ops3 (F := F), op.bufs ⊆ ucRefs := fun op h =>
  Pipeline.sub_ucRefs op (List.forall_iff_forall_mem.mp ops3_sub op h)
theorem ops1_fresh : ∀ op ∈ ops1 (F := F), op.fresh = ∅ := List.forall_iff_forall_mem.mp (StableHlo.forall_fresh_of_map rfl)
theorem ops2_fresh : ∀ op ∈ ops2 (F := F), op.fresh = ∅ := List.forall_iff_forall_mem.mp (StableHlo.forall_fresh_of_map rfl)
theorem ops3_fresh : ∀ op ∈ ops3 (F := F), op.fresh = ∅ := List.forall_iff_forall_mem.mp (StableHlo.forall_fresh_of_map rfl)

/-- The SparseCore call's buffers. -/
def callRefs : Finset (DevRef τ sig) :=
  {Proc.devRef .tc main_v6, Proc.devRef .tc main_v7, Proc.devRef .tc main_v8, Proc.devRef .tc main_v9_0, Proc.devRef .tc main_v9_1}

theorem callRefs_sub : callRefs ⊆ ucRefs := by decide +kernel

theorem held_callRefs (d : Dev nD) (W : Valuation τ sig (Elt F)) :
    (held (T d) callRefs W : sProp 𝕄) = iprop((iLoc d ↦{fullShare} (W main_v6 : Buf (Elt F) (iLoc d))) ∗ (tLoc d ↦{fullShare} (W main_v7 : Buf (Elt F) (tLoc d)))
      ∗ (sLoc d ↦{fullShare} (W main_v8 : Buf (Elt F) (sLoc d))) ∗ (eLoc d ↦{fullShare} (W main_v9_0 : Buf (Elt F) (eLoc d)))
      ∗ (pLoc d ↦{fullShare} (W main_v9_1 : Buf (Elt F) (pLoc d)))) := by
  unfold held callRefs
  rw [bigSep_insert (by decide), bigSep_insert (by decide), bigSep_insert (by decide), bigSep_insert (by decide), bigSep_singleton]
  rfl

/-- The results and the arguments. -/
def endRefs : Finset (DevRef τ sig) :=
  {Proc.devRef .tc main_v12, Proc.devRef .tc main_v13, Proc.devRef .tc main_v14, Proc.devRef .tc main_arg0, Proc.devRef .tc main_arg1,
    Proc.devRef .tc main_arg2, Proc.devRef .tc main_arg3, Proc.devRef .tc main_arg4}

theorem endRefs_sub : endRefs ⊆ ucRefs := by decide +kernel

/-- What is read at the end: the results and the arguments at the last valuation. -/
def FIN (d : Dev nD) : sProp 𝕄 := held (T d) endRefs (V5 m d)

/-! ## The ghost state -/

/-- The initial ghost state: the handshakes' rounds and the pipeline's. -/
def u₀ : UU := (initOf (K (F := F)).hsCells (K (F := F)).hsToks, (initOf (Pipeline.cells cfgs cellOf_inj) (Pipeline.launchToks cfgs cellOf_inj), 1))

/-- The pipeline's share of it, on one core. -/
def G (d : Dev nD) : sProp 𝕄 := iprop(Pipeline.cellsGhost cfgs (EP (F := F)) 0 d ∗ Pipeline.toksInit cfgs (EP (F := F)) 0 d)

/-- There is one pipeline: a conjunction over the pipelines is its one conjunct. -/
theorem ghostOne (Φ : Dev nD → Fin 1 → sProp 𝕄) :
    (bigSep Finset.univ fun c : Dev nD => bigSep Finset.univ fun p : Fin 1 => Φ c p) ⊢ bigSep Finset.univ fun c : Dev nD => Φ c 0 :=
  Entails.of_eq (bigSep_congr fun _ _ => bigSep_univ_of_subsingleton (0 : Fin 1))

/-- The pipeline's share of the initial ghost state, named through its own embedding. -/
theorem epOwn : (BI.own ((Emb.inl.trans embR : Emb UP 𝕄) (initOf (Pipeline.cells cfgs cellOf_inj) (Pipeline.launchToks cfgs cellOf_inj))) : sProp 𝕄)
    ⊢ BI.own (EP (initOf (Pipeline.cells cfgs cellOf_inj) (Pipeline.launchToks cfgs cellOf_inj))) :=
  BI.Entails.refl _

/-- A conjunction of empty resources is empty. -/
theorem sepOfEmp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P (ia m) (ta m) (sa m)).x q thr) := by
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HP⟩
  ihave H := (own_pair_emb embR (initOf (Pipeline.cells cfgs cellOf_inj) (Pipeline.launchToks cfgs cellOf_inj)) (1 : Counters)) $$ HP
  icases H with ⟨HP, -⟩
  ihave HP := epOwn $$ HP
  imod (Pipeline.fund_ghost cfgs (EP (F := F)) cellOf_inj) $$ HP with ⟨HG, HT⟩
  imodintro
  isplitl [HH]; · iexact HH
  isplitl
  · unfold G
    rw [bigSep_sep']
    isplitl [HG]
    · iapply (ghostOne fun c p => Pipeline.cellsGhost cfgs (EP (F := F)) p c); iexact HG
    · iapply (ghostOne fun c p => Pipeline.toksInit cfgs (EP (F := F)) p c); iexact HT
  rw [show (bigSep Finset.univ fun thr : Thread nD τ => bigSep Finset.univ fun q : Fin 1 => (P (ia m) (ta m) (sa m)).x q thr) = bigSep Finset.univ fun _ => iprop(emp) from
    bigSep_congr fun _ _ => bigSep_univ_of_subsingleton (0 : Fin 1), sepOfEmp]
  iempintro

/-! ## @main on the TensorCore -/

/-- The TensorCore call's region at the program's own contents. -/
def theReg : Pipeline.RegionSeg (pcfgs (F := F)) adm (pdats (Va m)) none defs₀ 𝒱₀ (K (F := F)).L (K (F := F)).lev 0 :=
  reg (Va m) (fun d (b : Ref sig .tc) => V2 m d b)
    (fun d => (put_ne _ main_v5_1 main_v5_0 _ (by decide)).trans (put_self _ _ _))
    (fun d => put_self _ _ _)
    (fun d b h0 h1 => (put_ne _ main_v5_1 b _ h1).trans (put_ne _ main_v5_0 b _ h0))

/-- What the region takes: the program's buffers and what the core owes. -/
theorem regPre (d : Dev nD) : (theReg (F := F) m).pre d = iprop(unscopedBufs d (fun b => V1 m d b) ∗
    ∃ W, ⌜(K (F := F)).WBelow (T d) W (8 * (SparseCore.Cfg.Blocks.one 1).fst 0)⌝ ∗ owes (T d) (dueTc (F := F) d) W) := rfl

/-- What the region leaves. -/
theorem regPost (d : Dev nD) : (theReg (F := F) m).post d = iprop(unscopedBufs d (fun b => V2 m d b) ∗
    ∃ W, ⌜(K (F := F)).WBelow (T d) W (8 * (SparseCore.Cfg.Blocks.one 1).fst 0)⌝ ∗ owes (T d) (dueTc (F := F) d) W) := rfl

/-- The call's operands after the call. -/
theorem held_callRefs4 (d : Dev nD) :
    (held (T d) callRefs (V4 m d) : sProp 𝕄) = iprop((iLoc d ↦{fullShare} (ia m d : Buf (Elt F) (iLoc d))) ∗ (tLoc d ↦{fullShare} (ta m d : Buf (Elt F) (tLoc d)))
      ∗ (sLoc d ↦{fullShare} (sa m d : Buf (Elt F) (sLoc d))) ∗ (eLoc d ↦{fullShare} (embOf (ia m d) (ta m d) : Buf (Elt F) (eLoc d)))
      ∗ (pLoc d ↦{fullShare} (partsOf (ia m d) (sa m d) : Buf (Elt F) (pLoc d)))) := by
  rw [held_callRefs,
    show V4 m d main_v6 = ia m d from (put_ne _ main_v9_1 main_v6 _ (by decide)).trans (put_ne _ main_v9_0 main_v6 _ (by decide)),
    show V4 m d main_v7 = ta m d from (put_ne _ main_v9_1 main_v7 _ (by decide)).trans (put_ne _ main_v9_0 main_v7 _ (by decide)),
    show V4 m d main_v8 = sa m d from (put_ne _ main_v9_1 main_v8 _ (by decide)).trans (put_ne _ main_v9_0 main_v8 _ (by decide)),
    show V4 m d main_v9_0 = embOf (ia m d) (ta m d) from (put_ne _ main_v9_1 main_v9_0 _ (by decide)).trans (put_self _ _ _),
    show V4 m d main_v9_1 = partsOf (ia m d) (sa m d) from put_self _ _ _]

/-- The call changes no other buffer. -/
theorem held_rest (d : Dev nD) : (held (T d) (ucRefs \ callRefs) (V3 m d) : sProp 𝕄) = held (T d) (ucRefs \ callRefs) (V4 m d) := by
  refine StableHlo.held_congr _ fun b hb => ?_
  have hb := (Finset.mem_sdiff.mp hb).2
  simp only [callRefs, Finset.mem_insert, Finset.mem_singleton, not_or] at hb
  simp only [V4, put]
  rw [Function.update_of_ne hb.2.2.2.2, Function.update_of_ne hb.2.2.2.1]

/-- What the core owes can be taken out of its state before the first call and put back. -/
theorem tcSt_take (d : Dev nD) : ((K (F := F)).tcSt EH d 0 : sProp 𝕄)
    ⊢ iprop((∃ W, ⌜(K (F := F)).WBelow (T d) W (8 * (SparseCore.Cfg.Blocks.one 1).fst 0)⌝ ∗ owes (T d) (dueTc (F := F) d) W)
      ∗ ((∃ W, ⌜(K (F := F)).WBelow (T d) W (8 * (SparseCore.Cfg.Blocks.one 1).fst 0)⌝ ∗ owes (T d) (dueTc (F := F) d) W) -∗ (K (F := F)).tcSt EH d 0)) := by
  unfold SparseCore.Cfg.tcSt
  iintro ⟨HO, Hr⟩
  isplitl [HO]; · iexact HO
  iintro HO
  isplitl [HO]; · iexact HO
  iexact Hr

/-- Before the call its operands are set apart. -/
theorem splitCall (d : Dev nD) : (held (T d) ucRefs (StableHlo.after ops2 (V2 m d)) : sProp 𝕄)
    = iprop(held (T d) callRefs (V3 m d) ∗ held (T d) (ucRefs \ callRefs) (V3 m d)) := StableHlo.held_sub_split _ callRefs_sub (V3 m d)

/-- After the call they go back to the others. -/
theorem joinCall (d : Dev nD) : (held (T d) ucRefs (V4 m d) : sProp 𝕄)
    = iprop(held (T d) callRefs (V4 m d) ∗ held (T d) (ucRefs \ callRefs) (V4 m d)) := StableHlo.held_sub_split _ callRefs_sub (V4 m d)

/-- At the end the results and the arguments are set apart. -/
theorem splitEnd (d : Dev nD) : (held (T d) ucRefs (StableHlo.after ops3 (V4 m d)) : sProp 𝕄)
    = iprop(held (T d) endRefs (V5 m d) ∗ held (T d) (ucRefs \ endRefs) (V5 m d)) := StableHlo.held_sub_split _ endRefs_sub (V5 m d)

theorem hmain (hin : ∀ d x, (ia m d x).toNat < 2048) (κ : GSem nD τ sig → ℕ) (d : Dev nD) :
    iprop((K (F := F)).ctx EH (P (ia m) (ta m) (sa m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((d : Thread nD τ).loc b)) = held (T d) ucRefs (V0 m d) from Pipeline.unscopedBufs_held d (V0 m d), main_eq]
  iintro ⟨#Hctx, Hst, ⟨Hb, Hh, Hts, -⟩, HG⟩
  iapply (StableHlo.wp_seq (𝒱 := 𝒱) (bd := none) (E := Set.univ) d ucRefs _ ops1 ops1_bufs ops1_fresh (V0 m d)) $$ [Hb Hh]
  · isplitl [Hb] <;> iassumption
  iintro ⟨Hb, Hh⟩
  rw [wp_bind]
  ihave #Hlev := (SparseCore.Cfg.ctx_levAts (K := K (F := F)) (EH := EH) (P := P (ia m) (ta m) (sa m)) κ) $$ Hctx
  ihave Hst := (tcSt_take d) $$ Hst
  icases Hst with ⟨HO, Hst⟩
  unfold G
  icases HG with ⟨HG, HT⟩
  iapply ((K (F := F)).wp_liftProg (D (F := F)) 𝒱 (T d) Set.univ none (.op (.customCall (Pipeline.entry 0) ()) .ret) _)
  iapply (Pipeline.RegionSeg.wp (pcfgs (F := F)) adm (pdats (Va m)) none cellOf_inj (EP (F := F)) defs₀ 𝒱₀ (K (F := F)).L (K (F := F)).lev
    (theReg m) d none (fun _ h => nomatch h) .ret _)
  isplitr [Hb Hh HO HG HT]
  · iintro ⟨Hb, HR⟩
    ihave HR := (Entails.of_eq (regPost m d)) $$ HR
    icases HR with ⟨Hh, HO⟩
    ihave Hh := (Entails.of_eq (Pipeline.unscopedBufs_held d (V2 m d))) $$ Hh
    rw [wp_ret]
    imodintro
    iapply (StableHlo.wp_seq (𝒱 := 𝒱) (bd := none) (E := Set.univ) d ucRefs _ ops2 ops2_bufs ops2_fresh (V2 m d)) $$ [Hb Hh]
    · isplitl [Hb] <;> iassumption
    iintro ⟨Hb, Hh⟩
    ihave Hh := (Entails.of_eq (splitCall m d)) $$ Hh
    icases Hh with ⟨Hc, Hr⟩
    ihave Hst := Hst $$ HO
    ihave Hc := (Entails.of_eq (held_callRefs d (V3 m d))) $$ Hc
    icases Hc with ⟨Hi, Ht, Hs, He, Hp⟩
    rw [wp_bind]
    iapply ((K (F := F)).wp_run (D (F := F)) 𝒱 (EH := EH) (P := P (ia m) (ta m) (sa m)) κ d 0) $$ [Hst Hi Ht Hs He Hp Hb Hr Hts]
    isplitr; · iexact Hctx
    isplitl [Hst]; · iexact Hst
    isplitl [Hi Ht Hs He Hp]
    · iapply (callIn_split (ia m) (ta m) (sa m) d)
      unfold callIn
      isplitl [Hi]; · iexact Hi
      isplitl [Ht]; · iexact Ht
      isplitl [Hs]; · iexact Hs
      isplitl [He]
      · iexists _; iexact He
      · iexists _; iexact Hp
    iintro ⟨Hst, Hdn⟩
    ihave Hdn := (callOut_join (ia m) (ta m) (sa m) d) $$ Hdn
    unfold callOut
    icases Hdn with ⟨Hi, Ht, Hs, He, Hp⟩
    ihave Hc := (Entails.of_eq (held_callRefs4 m d).symm) $$ [Hi Ht Hs He Hp]
    · isplitl [Hi]; · iexact Hi
      isplitl [Ht]; · iexact Ht
      isplitl [Hs]; · iexact Hs
      isplitl [He]; · iexact He
      iexact Hp
    ihave Hr := (Entails.of_eq (held_rest m d)) $$ Hr
    ihave Hh := (Entails.of_eq (joinCall m d).symm) $$ [Hc Hr]
    · isplitl [Hc] <;> iassumption
    iapply (StableHlo.wp_seq (𝒱 := 𝒱) (bd := none) (E := Set.univ) d ucRefs _ ops3 ops3_bufs ops3_fresh (V4 m d)) $$ [Hb Hh]
    · isplitl [Hb] <;> iassumption
    iintro ⟨Hb, Hh⟩
    ihave Hh := (Entails.of_eq (splitEnd m d)) $$ Hh
    icases Hh with ⟨Hf, -⟩
    rw [wp_pure]
    imodintro
    isplitl [Hst]; · iexact Hst
    isplitl [Hf]
    · unfold FIN; iexact Hf
    isplitl [Hb] <;> iassumption
  isplitl [Hb]; · iexact Hb
  isplitl [Hh HO]
  · rw [regPre m d]
    isplitl [Hh]
    · iapply (Entails.of_eq (Pipeline.unscopedBufs_held d (V1 m d)).symm); iexact Hh
    · iexact HO
  isplitr [HG HT]; · iexact Hlev
  isplitl [HG]; · iexact HG
  iexact HT

/-! ## The final memory -/

/-- The buffer of a TensorCore reference, at its location. -/
def at5 (d : Dev nD) (r : Ref sig .tc) : Buf (Elt F) ((T d : Thread nD τ).loc r) := V5 m d r

/-- In the final memory the results and the arguments are the program's. -/
def fq (d : Dev nD) (s' : Phys nD τ sig (Elt F)) : Prop :=
  s'.mem.mem ((T d : Thread nD τ).loc main_v12) = at5 m d main_v12 ∧ s'.mem.mem ((T d : Thread nD τ).loc main_v13) = at5 m d main_v13
    ∧ s'.mem.mem ((T d : Thread nD τ).loc main_v14) = at5 m d main_v14 ∧ s'.mem.mem ((T d : Thread nD τ).loc main_arg0) = at5 m d main_arg0
    ∧ s'.mem.mem ((T d : Thread nD τ).loc main_arg1) = at5 m d main_arg1 ∧ s'.mem.mem ((T d : Thread nD τ).loc main_arg2) = at5 m d main_arg2
    ∧ s'.mem.mem ((T d : Thread nD τ).loc main_arg3) = at5 m d main_arg3 ∧ s'.mem.mem ((T d : Thread nD τ).loc main_arg4) = at5 m d main_arg4

/-- What is held of a buffer in full is what the memory has. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr
  · ipureintro; exact funext fun i => h1 i (Finset.mem_univ i)
  iexact HSI

theorem held_endRefs (d : Dev nD) : (FIN m d : sProp 𝕄) = iprop((((T d : Thread nD τ).loc main_v12) ↦{fullShare} at5 m d main_v12)
    ∗ (((T d : Thread nD τ).loc main_v13) ↦{fullShare} at5 m d main_v13) ∗ (((T d : Thread nD τ).loc main_v14) ↦{fullShare} at5 m d main_v14)
    ∗ (((T d : Thread nD τ).loc main_arg0) ↦{fullShare} at5 m d main_arg0) ∗ (((T d : Thread nD τ).loc main_arg1) ↦{fullShare} at5 m d main_arg1)
    ∗ (((T d : Thread nD τ).loc main_arg2) ↦{fullShare} at5 m d main_arg2) ∗ (((T d : Thread nD τ).loc main_arg3) ↦{fullShare} at5 m d main_arg3)
    ∗ (((T d : Thread nD τ).loc main_arg4) ↦{fullShare} at5 m d main_arg4)) := by
  unfold FIN held endRefs
  rw [bigSep_insert (by decide), bigSep_insert (by decide), bigSep_insert (by decide), bigSep_insert (by decide), bigSep_insert (by decide),
    bigSep_insert (by decide), bigSep_insert (by decide), bigSep_singleton]
  rfl

theorem hfin (d : Dev nD) (s' : Phys nD τ sig (Elt F)) : iprop(FIN m d ∗ SI s') ⊢ (⌜fq m d s'⌝ : sProp 𝕄) := by
  rw [held_endRefs]
  iintro ⟨⟨H1, H2, H3, H4, H5, H6, H7, H8⟩, HS⟩
  ihave H := (agree s' _ _) $$ [HS H1]
  · isplitl [H1] <;> iassumption
  icases H with ⟨%h1, HS⟩
  ihave H := (agree s' _ _) $$ [HS H2]
  · isplitl [H2] <;> iassumption
  icases H with ⟨%h2, HS⟩
  ihave H := (agree s' _ _) $$ [HS H3]
  · isplitl [H3] <;> iassumption
  icases H with ⟨%h3, HS⟩
  ihave H := (agree s' _ _) $$ [HS H4]
  · isplitl [H4] <;> iassumption
  icases H with ⟨%h4, HS⟩
  ihave H := (agree s' _ _) $$ [HS H5]
  · isplitl [H5] <;> iassumption
  icases H with ⟨%h5, HS⟩
  ihave H := (agree s' _ _) $$ [HS H6]
  · isplitl [H6] <;> iassumption
  icases H with ⟨%h6, HS⟩
  ihave H := (agree s' _ _) $$ [HS H7]
  · isplitl [H7] <;> iassumption
  icases H with ⟨%h7, HS⟩
  ihave H := (agree s' _ _) $$ [HS H8]
  · isplitl [H8] <;> iassumption
  icases H with ⟨%h8, -⟩
  ipureintro
  exact ⟨h1, h2, h3, h4, h5, h6, h7, h8⟩

/-- After the run every device's results and arguments are the program's, and every semaphore is zero. -/
def QC : PUnit × MemSt nD τ sig (Elt F) → Prop := fun r =>
  (∀ d : Dev nD, r.2.mem ((T d : Thread nD τ).loc main_v12) = at5 m d main_v12 ∧ r.2.mem ((T d : Thread nD τ).loc main_v13) = at5 m d main_v13
    ∧ r.2.mem ((T d : Thread nD τ).loc main_v14) = at5 m d main_v14 ∧ r.2.mem ((T d : Thread nD τ).loc main_arg0) = at5 m d main_arg0
    ∧ r.2.mem ((T d : Thread nD τ).loc main_arg1) = at5 m d main_arg1 ∧ r.2.mem ((T d : Thread nD τ).loc main_arg2) = at5 m d main_arg2
    ∧ r.2.mem ((T d : Thread nD τ).loc main_arg3) = at5 m d main_arg3 ∧ r.2.mem ((T d : Thread nD τ).loc main_arg4) = at5 m d main_arg4)
  ∧ r.2.sem = fun _ => 0

/-- The whole program runs without fault and ends with the results and the arguments of `at5`, if every index that the first call
    computes names a row of the table. -/
theorem run_main [∀ e, Nonempty (Elt F e)] (hin : ∀ d x, (ia m d x).toNat < 2048) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ia m) (ta m) (sa m)) (A := ∅) facts v₀
    (fun q hq => match q with | 0 => nomatch hq)
    (fun q _ => match q with | 0 => tileObl (ia m) (ta m) (sa m) hin)
    (fun q _ => match q with | 0 => SparseCore.Cfg.VecSplit.of_plain (vecSplit (ia m) (ta m) (sa m)))
    m ρ main G (FIN m) u₀ (sep_elim_left.trans (hu₀ m)) (hmain m ρ hin) (fq m) (hfin m) (QC m) (fun _ h hz => ⟨h, hz⟩)

/-- The program writes no argument. -/
theorem at5_arg (d : Dev nD) (r : Ref sig .tc) (hr : r = main_arg0 ∨ r = main_arg1 ∨ r = main_arg2 ∨ r = main_arg3 ∨ r = main_arg4) :
    at5 m d r = m ((T d : Thread nD τ).loc r) := by
  rcases hr with rfl | rfl | rfl | rfl | rfl <;>
  · unfold at5 V5
    rw [StableHlo.after_of_writes_sub (W := [main_cst_0, main_v10, main_cst_1, main_v11, main_v12, main_v13, main_v14]) ops3 _ (hW := StableHlo.forall_writes_sub_of_map rfl) (by decide)]
    unfold V4
    rw [put_ne _ _ _ _ (by decide), put_ne _ _ _ _ (by decide)]
    unfold V3
    rw [StableHlo.after_of_writes_sub (W := [main_v6, main_v7, main_v8]) ops2 _ (hW := StableHlo.forall_writes_sub_of_map rfl) (by decide)]
    unfold V2
    rw [put_ne _ _ _ _ (by decide), put_ne _ _ _ _ (by decide)]
    unfold V1
    rw [StableHlo.after_of_writes_sub (W := [main_v0, main_cst, main_v1, main_v2, main_v3, main_v4]) ops1 _ (hW := StableHlo.forall_writes_sub_of_map rfl) (by decide)]
    rfl

end Cert.Proof

end
-- ==== Proof.Blocks.lean ====
/-
  The arrays that the TensorCore call leaves, entry by entry.
-/
module

public import proofs.«01_k».proof.Proof.Region
public import Idealize.ShloMosaic.Lib.Pipeline.Value
public import Idealize.ShloMosaic.Lib.Pointwise.Index

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore (S V T)
open Idealize.ShloMosaic.Pipeline (Dat Cfg Window)

variable {F : FTy → Type} [FloatOps F]
variable (Va : (c : Dev nD) → (b : Ref sig .tc) → Buf (Elt F) ((c : Thread nD τ).loc b))

theorem N0 : cfg0.N = 8 := by decide +kernel

theorem lt8 (t : Fin cfg0.N) : t.val < 8 := t.isLt.trans_eq N0

/-- Equal arguments, equal values. -/
theorem app3 {α β γ δ : Type} (f : α → β → γ → δ) {a a' : α} {b b' : β} {c c' : γ} (h1 : a = a') (h2 : b = b') (h3 : c = c') :
    f a b c = f a' b' c' := by subst h1 h2 h3; rfl

theorem off0 : ∀ t : Fin cfg0.N, win0_0.index t 0 = t.val ∧ win0_0.index t 1 = 0 ∧ win0_0.index t 2 = 0 :=
  (by decide +kernel : ∀ t : Fin grid0.N, _)
theorem off1 : ∀ t : Fin cfg0.N, win0_1.index t 0 = 0 ∧ win0_1.index t 1 = 0 := (by decide +kernel : ∀ t : Fin grid0.N, _)
theorem off2 : ∀ t : Fin cfg0.N, win0_2.index t 0 = 0 ∧ win0_2.index t 1 = 0 := (by decide +kernel : ∀ t : Fin grid0.N, _)
theorem off3 : ∀ t : Fin cfg0.N, win0_3.index t 0 = 0 ∧ win0_3.index t 1 = 0 := (by decide +kernel : ∀ t : Fin grid0.N, _)
theorem off4 : ∀ t : Fin cfg0.N, win0_4.index t 0 = 0 ∧ win0_4.index t 1 = 0 := (by decide +kernel : ∀ t : Fin grid0.N, _)
theorem off5 : ∀ t : Fin cfg0.N, win0_5.index t 0 = t.val ∧ win0_5.index t 1 = 0 ∧ win0_5.index t 2 = 0 :=
  (by decide +kernel : ∀ t : Fin grid0.N, _)
theorem off6 : ∀ t : Fin cfg0.N, win0_6.index t 0 = 0 ∧ win0_6.index t 1 = 0 := (by decide +kernel : ∀ t : Fin grid0.N, _)

/-- Point `t`'s block of the data: its two batches of 512 rows. -/
theorem blk0 (c : Dev nD) (t : Fin cfg0.N) (j : S2x512x512.Idx) :
    (blkA Va c 0 t : S2x512x512.Idx → F .f32) j
      = (Va c main_v3 : S16x512x512.Idx → F .f32) (ix3 ⟨2 * t.val + (j 0).val, by have h : (j 0).val < 2 := (j 0).isLt; have := lt8 t; omega⟩ (j 1) (j 2)) := by
  show (Va c main_v3 : S16x512x512.Idx → F .f32) ((win0_0.rect t).emb j) = _
  refine congrArg _ (funext fun a => Fin.ext ?_)
  match a with
  | ⟨0, _⟩ => show win0_0.index t 0 * 2 + 1 * (j 0).val = 2 * t.val + (j 0).val
              rw [(off0 t).1]; omega
  | ⟨1, _⟩ => show win0_0.index t 1 * 512 + 1 * (j 1).val = (j 1).val
              rw [(off0 t).2.1]; omega
  | ⟨2, _⟩ => show win0_0.index t 2 * 512 + 1 * (j 2).val = (j 2).val
              rw [(off0 t).2.2]; omega

/-- Every point sees the whole of an array whose block is the array. -/
theorem blk1 (c : Dev nD) (t : Fin cfg0.N) : (blkA Va c 1 t : S1x2048.Idx → F .f32) = (Va c main_v4 : S1x2048.Idx → F .f32) := by
  funext j
  show (Va c main_v4 : S1x2048.Idx → F .f32) ((win0_1.rect t).emb j) = _
  refine congrArg _ (funext fun a => Fin.ext ?_)
  match a with
  | ⟨0, _⟩ => show win0_1.index t 0 * 1 + 1 * (j 0).val = (j 0).val
              rw [(off1 t).1]; omega
  | ⟨1, _⟩ => show win0_1.index t 1 * 2048 + 1 * (j 1).val = (j 1).val
              rw [(off1 t).2]; omega

theorem blk2 (c : Dev nD) (t : Fin cfg0.N) : (blkA Va c 2 t : S2048x256.Idx → F .f32) = (Va c main_arg2 : S2048x256.Idx → F .f32) := by
  funext j
  show (Va c main_arg2 : S2048x256.Idx → F .f32) ((win0_2.rect t).emb j) = _
  refine congrArg _ (funext fun a => Fin.ext ?_)
  match a with
  | ⟨0, _⟩ => show win0_2.index t 0 * 2048 + 1 * (j 0).val = (j 0).val
              rw [(off2 t).1]; omega
  | ⟨1, _⟩ => show win0_2.index t 1 * 256 + 1 * (j 1).val = (j 1).val
              rw [(off2 t).2]; omega

theorem blk3 (c : Dev nD) (t : Fin cfg0.N) : (blkA Va c 3 t : S256x256.Idx → F .f32) = (Va c main_arg3 : S256x256.Idx → F .f32) := by
  funext j
  show (Va c main_arg3 : S256x256.Idx → F .f32) ((win0_3.rect t).emb j) = _
  refine congrArg _ (funext fun a => Fin.ext ?_)
  match a with
  | ⟨0, _⟩ => show win0_3.index t 0 * 256 + 1 * (j 0).val = (j 0).val
              rw [(off3 t).1]; omega
  | ⟨1, _⟩ => show win0_3.index t 1 * 256 + 1 * (j 1).val = (j 1).val
              rw [(off3 t).2]; omega

theorem blk4 (c : Dev nD) (t : Fin cfg0.N) : (blkA Va c 4 t : S1x256.Idx → F .f32) = (Va c main_v2 : S1x256.Idx → F .f32) := by
  funext j
  show (Va c main_v2 : S1x256.Idx → F .f32) ((win0_4.rect t).emb j) = _
  refine congrArg _ (funext fun a => Fin.ext ?_)
  match a with
  | ⟨0, _⟩ => show win0_4.index t 0 * 1 + 1 * (j 0).val = (j 0).val
              rw [(off4 t).1]; omega
  | ⟨1, _⟩ => show win0_4.index t 1 * 256 + 1 * (j 1).val = (j 1).val
              rw [(off4 t).2]; omega

/-- The two batches of rows that point `t` works on. -/
def rowsAt (x : S16x512x512.Idx → F .f32) (t : Fin 8) : S2x512x512.Idx → F .f32 := fun j =>
  x (ix3 ⟨2 * t.val + (j 0).val, by have h : (j 0).val < 2 := (j 0).isLt; omega⟩ (j 1) (j 2))

/-- The row numbers of all the points. -/
def idxAll (x : S16x512x512.Idx → F .f32) (c2 : S1x2048.Idx → F .f32) (cb : S2048x256.Idx → F .f32) : S8x1x1024.Idx → Elt F .i32 := fun i =>
  (idxBlock (rowsAt x (i 0)) c2 cb : S1x1x1024.Idx → Elt F .i32) (ix3 0 0 (i 2))

theorem flushed5 (c : Dev nD) (t : Fin cfg0.N) :
    (dat Va c).flushed 5 t = (win0_5.blk t).view.read (Elt F) (idxAll (Va c main_v3) (Va c main_v4) (Va c main_arg2)) := by
  funext j
  show (idxBlock (blkA Va c 0 t) (blkA Va c 1 t) (blkA Va c 2 t) : S1x1x1024.Idx → Elt F .i32) (j : S1x1x1024.Idx)
    = idxAll (Va c main_v3) (Va c main_v4) (Va c main_arg2) ((win0_5.rect t).emb j)
  have e0 : ((win0_5.rect t).emb j : S8x1x1024.Idx) 0 = ⟨t.val, lt8 t⟩ := by
    refine Fin.ext ?_
    show win0_5.index t 0 * 1 + 1 * (j 0).val = t.val
    have h : (j 0).val < 1 := (j 0).isLt
    rw [(off5 t).1]; omega
  have e2 : ((win0_5.rect t).emb j : S8x1x1024.Idx) 2 = ((j : S1x1x1024.Idx) 2 : Fin 1024) := by
    refine Fin.ext ?_
    show win0_5.index t 2 * 1024 + 1 * (j 2).val = (j 2).val
    rw [(off5 t).2.2]; omega
  unfold idxAll
  rw [e0, e2]
  have ej : (j : S1x1x1024.Idx) = ix3 0 0 ((j : S1x1x1024.Idx) 2) := by
    funext a
    match a with
    | ⟨0, _⟩ => exact Subsingleton.elim (α := Fin 1) _ _
    | ⟨1, _⟩ => exact Subsingleton.elim (α := Fin 1) _ _
    | ⟨2, _⟩ => rfl
  have eb : (blkA Va c 0 t : S2x512x512.Idx → F .f32) = rowsAt (Va c main_v3) ⟨t.val, lt8 t⟩ := funext fun j => blk0 Va c t j
  refine Eq.trans ?_ (congrArg (idxBlock (rowsAt (Va c main_v3) ⟨t.val, lt8 t⟩) (Va c main_v4) (Va c main_arg2) : S1x1x1024.Idx → Elt F .i32) ej)
  exact congrFun (app3 (fun (x : S2x512x512.Idx → F .f32) (y : S1x2048.Idx → F .f32) (z : S2048x256.Idx → F .f32) => idxBlock x y z) eb (blk1 Va c t) (blk2 Va c t)) j

theorem cover5 (i : S8x1x1024.Idx) : ∃ t : Fin cfg0.N, (cfg0.win 5).flush t = true ∧ i ∈ ((cfg0.win 5).blk t).view.set := by
  have h0 : (i 0).val < 8 := (i 0).isLt
  have h1 : (i 1).val < 1 := (i 1).isLt
  have h2 : (i 2).val < 1024 := (i 2).isLt
  obtain ⟨t, ht⟩ : ∃ t : Fin cfg0.N, t.val = (i 0).val := ⟨⟨(i 0).val, h0.trans_eq N0.symm⟩, rfl⟩
  refine ⟨t, ?_, ?_⟩
  · exact (by decide +kernel : ∀ t : Fin grid0.N, win0_5.flush t = true) t
  · show i ∈ ((View.whole main_v5_0).slice (win0_5.rect t)).set
    rw [View.set_slice_whole, Rect.mem_set_unit]
    intro a
    match a with
    | ⟨0, _⟩ => show win0_5.index t 0 * 1 ≤ (i 0).val ∧ (i 0).val < win0_5.index t 0 * 1 + 1
                rw [(off5 t).1]; omega
    | ⟨1, _⟩ => show win0_5.index t 1 * 1 ≤ (i 1).val ∧ (i 1).val < win0_5.index t 1 * 1 + 1
                rw [(off5 t).2.1]; omega
    | ⟨2, _⟩ => show win0_5.index t 2 * 1024 ≤ (i 2).val ∧ (i 2).val < win0_5.index t 2 * 1024 + 1024
                rw [(off5 t).2.2]; omega

/-- The row numbers that the call leaves. -/
theorem idxArr_eq (c : Dev nD) : idxArr Va c = idxAll (Va c main_v3) (Va c main_v4) (Va c main_arg2) :=
  (dat Va c).arrAt_eq_of_cover 5 _ (fun t _ => flushed5 Va c t) cover5

theorem flushed6 (c : Dev nD) (t : Fin cfg0.N) :
    (dat Va c).flushed 6 t = (win0_6.blk t).view.read (Elt F) (k0_pay2 (Va c main_arg2) (Va c main_arg3) (Va c main_v2)) := by
  funext j
  show (k0_pay2 (blkA Va c 2 t0_0) (blkA Va c 3 t0_0) (blkA Va c 4 t0_0) : S1x2048.Idx → F .f32) (j : S1x2048.Idx)
    = (k0_pay2 (Va c main_arg2) (Va c main_arg3) (Va c main_v2) : S1x2048.Idx → F .f32) ((win0_6.rect t).emb j)
  have ej : ((win0_6.rect t).emb j : S1x2048.Idx) = j := by
    refine funext fun a => Fin.ext ?_
    match a with
    | ⟨0, _⟩ => show win0_6.index t 0 * 1 + 1 * (j 0).val = (j 0).val
                rw [(off6 t).1]; omega
    | ⟨1, _⟩ => show win0_6.index t 1 * 2048 + 1 * (j 1).val = (j 1).val
                rw [(off6 t).2]; omega
  rw [ej]
  exact congrFun (app3 (fun (x : S2048x256.Idx → F .f32) (y : S256x256.Idx → F .f32) (z : S1x256.Idx → F .f32) => k0_pay2 x y z) (blk2 Va c t0_0) (blk3 Va c t0_0) (blk4 Va c t0_0)) j

theorem cover6 (i : S1x2048.Idx) : ∃ t : Fin cfg0.N, (cfg0.win 6).flush t = true ∧ i ∈ ((cfg0.win 6).blk t).view.set := by
  have h0 : (i 0).val < 1 := (i 0).isLt
  have h1 : (i 1).val < 2048 := (i 1).isLt
  have hex : ∃ t : Fin grid0.N, win0_6.flush t = true := by decide +kernel
  obtain ⟨t, ht⟩ := hex
  refine ⟨t, ht, ?_⟩
  show i ∈ ((View.whole main_v5_1).slice (win0_6.rect t)).set
  rw [View.set_slice_whole, Rect.mem_set_unit]
  intro a
  match a with
  | ⟨0, _⟩ => show win0_6.index t 0 * 1 ≤ (i 0).val ∧ (i 0).val < win0_6.index t 0 * 1 + 1
              rw [(off6 t).1]; omega
  | ⟨1, _⟩ => show win0_6.index t 1 * 2048 ≤ (i 1).val ∧ (i 1).val < win0_6.index t 1 * 2048 + 2048
              rw [(off6 t).2]; omega

/-- The row sums that the call leaves. -/
theorem sumArr_eq (c : Dev nD) : sumArr Va c = k0_pay2 (Va c main_arg2) (Va c main_arg3) (Va c main_v2) :=
  (dat Va c).arrAt_eq_of_cover 6 _ (fun t _ => flushed6 Va c t) cover6

end Cert.Proof

end
-- ==== Proof.Vals.lean ====
/-
  What the program leaves in its results, as functions of its arguments.
-/
module

public import proofs.«01_k».proof.Proof.Run
public import proofs.«01_k».proof.Proof.Blocks
public import proofs.«01_k».proof.Proof.Pick
public import Idealize.ShloMosaic.Lib.StableHlo.RunRead

@[expose] public section

noncomputable section

namespace Cert.Proof

open Cert.KernelIdeal Cert.KernelIdeal.Gen
open Idealize.ShloMosaic Idealize.ShloMosaic.StableHlo
open Idealize.ShloMosaic.TcCoe Idealize.ShloMosaic.Tactic
open Idealize.ShloMosaic.SparseCore (S V T)

variable {F : FTy → Type} [FloatOps F]

/-- The squared norms of the table's rows. -/
def normRow (cb : FVec F S2048x256 .f32) : FVec F S2048 .f32 :=
  Host.reduceAdd (mulf cb cb) (constant S_ .f32 0x00000000#32) reducesTo_S2048x256_S2048_d1 h_S_

/-- The row numbers, from the data and the table. -/
def nums (x : FVec F S16x1024x256 .f32) (cb : FVec F S2048x256 .f32) : IVec S8x1x1024 32 :=
  idxAll (shapeCast S16x512x512 x shapeCasts_S16x1024x256_S16x512x512) (shapeCast S1x2048 (normRow cb) shapeCasts_S2048_S1x2048) cb

/-- The row sums, from the table, the matrix and the bias. -/
def rowSums (cb : FVec F S2048x256 .f32) (w : FVec F S256x256 .f32) (b : FVec F S256 .f32) : FVec F S1x2048 .f32 :=
  k0_pay2 cb w (shapeCast S1x256 b shapeCasts_S256_S1x256)

/-- The SparseCore call's row numbers, table and row sums. -/
def numsIn (x : FVec F S16x1024x256 .f32) (cb : FVec F S2048x256 .f32) : IVec S64x128 32 := shapeCast S64x128 (nums x cb) shapeCasts_S8x1x1024_S64x128
def tableIn (cb : FVec F S2048x256 .f32) : FVec F S2048x2x128 .f32 := shapeCast S2048x2x128 cb shapeCasts_S2048x256_S2048x2x128
def sumsIn (cb : FVec F S2048x256 .f32) (w : FVec F S256x256 .f32) (b : FVec F S256 .f32) : FVec F S2048 .f32 :=
  shapeCast S2048 (rowSums cb w b) shapeCasts_S1x2048_S2048

variable (m : (ℓ : Loc nD τ sig) → Buf (Elt F) ℓ) (d : Dev nD)

abbrev A1 : FVec F S16x1024x256 .f32 := m ((T d : Thread nD τ).loc main_arg1)
abbrev A2 : FVec F S2048x256 .f32 := m ((T d : Thread nD τ).loc main_arg2)
abbrev A3 : FVec F S256x256 .f32 := m ((T d : Thread nD τ).loc main_arg3)
abbrev A4 : FVec F S256 .f32 := m ((T d : Thread nD τ).loc main_arg4)

theorem V1_v3 : V1 m d main_v3 = (shapeCast S16x512x512 (A1 m d) shapeCasts_S16x1024x256_S16x512x512 : FVec F S16x512x512 .f32) := by
  unfold V1 ops1
  after_reads_simp
  rfl
theorem V1_v4 : V1 m d main_v4 = (shapeCast S1x2048 (normRow (A2 m d)) shapeCasts_S2048_S1x2048 : FVec F S1x2048 .f32) := by
  unfold V1 ops1
  after_reads_simp
  rfl
theorem V1_v2 : V1 m d main_v2 = (shapeCast S1x256 (A4 m d) shapeCasts_S256_S1x256 : FVec F S1x256 .f32) := by
  unfold V1 ops1
  after_reads_simp
  rfl
theorem V1_a2 : V1 m d main_arg2 = A2 m d := by
  unfold V1 ops1
  after_reads_simp
  rfl
theorem V1_a3 : V1 m d main_arg3 = A3 m d := by
  unfold V1 ops1
  after_reads_simp
  rfl

theorem V2_v50 : V2 m d main_v5_0 = nums (A1 m d) (A2 m d) := by
  unfold V2
  rw [put_ne _ _ _ _ (by decide), put_self, idxArr_eq]
  show idxAll (V1 m d main_v3) (V1 m d main_v4) (V1 m d main_arg2) = _
  rw [V1_v3, V1_v4, V1_a2]
  rfl

theorem V2_v51 : V2 m d main_v5_1 = rowSums (A2 m d) (A3 m d) (A4 m d) := by
  unfold V2
  rw [put_self, sumArr_eq]
  show k0_pay2 (V1 m d main_arg2) (V1 m d main_arg3) (V1 m d main_v2) = _
  rw [V1_v2, V1_a2, V1_a3]
  rfl

theorem V2_a2 : V2 m d main_arg2 = A2 m d := by
  unfold V2
  rw [put_ne _ _ _ _ (by decide), put_ne _ _ _ _ (by decide), V1_a2]

theorem ia_eq : ia m d = numsIn (A1 m d) (A2 m d) := by
  unfold ia V3 ops2
  after_reads_simp
  rw [V2_v50]
  rfl
theorem ta_eq : ta m d = tableIn (A2 m d) := by
  unfold ta V3 ops2
  after_reads_simp
  rw [V2_a2]
  rfl
theorem sa_eq : sa m d = sumsIn (A2 m d) (A3 m d) (A4 m d) := by
  unfold sa V3 ops2
  after_reads_simp
  rw [V2_v51]
  rfl

/-- The program's first result: the row numbers. -/
theorem at5_v12 : at5 m d main_v12 = (shapeCast S16x512 (nums (A1 m d) (A2 m d)) shapeCasts_S8x1x1024_S16x512 : IVec S16x512 32) := by
  unfold at5 V5 ops3
  after_reads_simp
  have e : V4 m d main_v5_0 = nums (A1 m d) (A2 m d) := by
    unfold V4
    rw [put_ne _ _ _ _ (by decide), put_ne _ _ _ _ (by decide)]
    unfold V3 ops2
    after_reads_simp
    exact V2_v50 m d
  rw [e]
  rfl

/-- The second: the table's rows at those numbers. -/
theorem at5_v13 : at5 m d main_v13
    = (shapeCast S16x512x256 (embOf (numsIn (A1 m d) (A2 m d)) (tableIn (A2 m d))) shapeCasts_S8192x2x128_S16x512x256 : FVec F S16x512x256 .f32) := by
  unfold at5 V5 ops3
  after_reads_simp
  have e : V4 m d main_v9_0 = embOf (ia m d) (ta m d) := by
    unfold V4
    rw [put_ne _ _ _ _ (by decide), put_self]
  rw [e, ia_eq, ta_eq]
  rfl

/-- The third: the sum of the tiles' partial sums, scaled. -/
theorem at5_v14 : at5 m d main_v14
    = (shapeCast S_ (mulf (Host.reduceAdd (partsOf (numsIn (A1 m d) (A2 m d)) (sumsIn (A2 m d) (A3 m d) (A4 m d)) : FVec F S32x16 .f32)
        (constant S_ .f32 0x00000000#32) reducesTo_S32x16_S_d0_1 h_S_) (constant S_ .f32 0x35000000#32)) shapeCasts_S_S_ : FVec F S_ .f32) := by
  unfold at5 V5 ops3
  after_reads_simp
  have e : V4 m d main_v9_1 = partsOf (ia m d) (sa m d) := by
    unfold V4
    rw [put_self]
  rw [e, ia_eq, sa_eq]
  rfl

/-- Every index of the SparseCore call names a row, if every number of every grid point does. -/
theorem hin_of (h : ∀ (x : Vec F S2x512x512 .f32) (c2 : Vec F S1x2048 .f32) (cb : Vec F S2048x256 .f32) (j : S1x1x1024.Idx),
    (idxBlock x c2 cb j).toNat < 2048) (d : Dev nD) (x : S64x128.Idx) : (ia m d x).toNat < 2048 := by
  rw [ia_eq]
  exact h _ _ _ _

end Cert.Proof

end
-- ==== Proof.Ref.lean ====
/-
  The reference's run: a line of host operations, so its results are read off the line.
-/
module

public import proofs.«01_k».proof.Defs
public import proofs.«01_k».proof.Proof.Gen.ReferenceIdeal
public import Idealize.ShloMosaic.Lib.StableHlo.Run
public import Idealize.ShloMosaic.Lib.StableHlo.RunRead
public import Idealize.ShloMosaic.Lib.Quiescent

@[expose] public section

noncomputable section

namespace Cert.Proof.R

open Cert.ReferenceIdeal Cert.ReferenceIdeal.Gen
open Idealize.ShloMosaic Idealize.ShloMosaic.StableHlo
open Idealize.ShloMosaic.TcCoe Idealize.ShloMosaic.Tactic

variable {F : FTy → Type} [FloatOps F]

/-- The distances. -/
def opsA : List (HloOp τ sig (Elt F)) :=
  [StableHlo.reshape main_arg1 main_v0 (rfl : (.f32 : EltTy) = .f32) shapeCasts_S16x1024x256_S16x512x2x256,
   StableHlo.nullary main_cst (constant S_ .f32 0x00000000#32),
   StableHlo.binary main_v0 main_cst main_v1 ((fun x v => Host.reduceAdd x v reducesTo_S16x512x2x256_S16x512x256_d2 h_S_) : (⟨S16x512x2x256, .f32⟩ : BufTy).Contents (Elt F) → (⟨S_, .f32⟩ : BufTy).Contents (Elt F) → (⟨S16x512x256, .f32⟩ : BufTy).Contents (Elt F)),
   StableHlo.nullary main_cst_0 (constant S_ .f32 0x40000000#32),
   StableHlo.unary main_cst_0 main_v2 (broadcastInDim S16x512x256 ![] bcast_S_S16x512x256 : (⟨S_, .f32⟩ : BufTy).Contents (Elt F) → (⟨S16x512x256, .f32⟩ : BufTy).Contents (Elt F)),
   StableHlo.binary main_v1 main_v2 main_v3 (Host.divf : (⟨S16x512x256, .f32⟩ : BufTy).Contents (Elt F) → (⟨S16x512x256, .f32⟩ : BufTy).Contents (Elt F) → (⟨S16x512x256, .f32⟩ : BufTy).Contents (Elt F)),
   StableHlo.binary main_v3 main_v3 main_v4 (mulf : (⟨S16x512x256, .f32⟩ : BufTy).Contents (Elt F) → (⟨S16x512x256, .f32⟩ : BufTy).Contents (Elt F) → (⟨S16x512x256, .f32⟩ : BufTy).Contents (Elt F)),
   StableHlo.nullary main_cst_1 (constant S_ .f32 0x00000000#32),
   StableHlo.binary main_v4 main_cst_1 main_v5 ((fun x v => Host.reduceAdd x v reducesTo_S16x512x256_S16x512_d2 h_S_) : (⟨S16x512x256, .f32⟩ : BufTy).Contents (Elt F) → (⟨S_, .f32⟩ : BufTy).Contents (Elt F) → (⟨S16x512, .f32⟩ : BufTy).Contents (Elt F)),
   StableHlo.unary main_v5 main_v6 (broadcastInDim S16x512x1 ![0, 1] bcast_S16x512_S16x512x1_0_1 : (⟨S16x512, .f32⟩ : BufTy).Contents (Elt F) → (⟨S16x512x1, .f32⟩ : BufTy).Contents (Elt F)),
   StableHlo.binary main_arg2 main_arg2 main_v7 (mulf : (⟨S2048x256, .f32⟩ : BufTy).Contents (Elt F) → (⟨S2048x256, .f32⟩ : BufTy).Contents (Elt F) → (⟨S2048x256, .f32⟩ : BufTy).Contents (Elt F)),
   StableHlo.nullary main_cst_2 (constant S_ .f32 0x00000000#32),
   StableHlo.binary main_v7 main_cst_2 main_v8 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
   StableHlo.binary main_v3 main_arg2 main_v9 ((fun l r => Host.dotGeneral dot_S16x512x256_S2048x256_S16x512x2048_2_1_01_0_n_n none l r) : (⟨S16x512x256, .f32⟩ : BufTy).Contents (Elt F) → (⟨S2048x256, .f32⟩ : BufTy).Contents (Elt F) → (⟨S16x512x2048, .f32⟩ : BufTy).Contents (Elt F)),
   StableHlo.nullary main_cst_3 (constant S_ .f32 0x40000000#32),
   StableHlo.unary main_cst_3 main_v10 (broadcastInDim S16x512x2048 ![] bcast_S_S16x512x2048 : (⟨S_, .f32⟩ : BufTy).Contents (Elt F) → (⟨S16x512x2048, .f32⟩ : BufTy).Contents (Elt F)),
   StableHlo.binary main_v10 main_v9 main_v11 (mulf : (⟨S16x512x2048, .f32⟩ : BufTy).Contents (Elt F) → (⟨S16x512x2048, .f32⟩ : BufTy).Contents (Elt F) → (⟨S16x512x2048, .f32⟩ : BufTy).Contents (Elt F)),
   StableHlo.unary main_v6 main_v12 (broadcastInDim S16x512x2048 ![0, 1, 2] bcast_S16x512x1_S16x512x2048_0_1_2 : (⟨S16x512x1, .f32⟩ : BufTy).Contents (Elt F) → (⟨S16x512x2048, .f32⟩ : BufTy).Contents (Elt F)),
   StableHlo.binary main_v12 main_v11 main_v13 (subf : (⟨S16x512x2048, .f32⟩ : BufTy).Contents (Elt F) → (⟨S16x512x2048, .f32⟩ : BufTy).Contents (Elt F) → (⟨S16x512x2048, .f32⟩ : BufTy).Contents (Elt F)),
   StableHlo.unary main_v8 main_v14 (broadcastInDim S1x1x2048 ![2] bcast_S2048_S1x1x2048_2 : (⟨S2048, .f32⟩ : BufTy).Contents (Elt F) → (⟨S1x1x2048, .f32⟩ : BufTy).Contents (Elt F)),
   StableHlo.unary main_v14 main_v15 (broadcastInDim S16x512x2048 ![0, 1, 2] bcast_S1x1x2048_S16x512x2048_0_1_2 : (⟨S1x1x2048, .f32⟩ : BufTy).Contents (Elt F) → (⟨S16x512x2048, .f32⟩ : BufTy).Contents (Elt F)),
   StableHlo.binary main_v13 main_v15 main_v16 (addf : (⟨S16x512x2048, .f32⟩ : BufTy).Contents (Elt F) → (⟨S16x512x2048, .f32⟩ : BufTy).Contents (Elt F) → (⟨S16x512x2048, .f32⟩ : BufTy).Contents (Elt F))]

/-- The argmin. -/
def opsB : List (HloOp τ sig (Elt F)) :=
  [StableHlo.nullary main_call0_v0 (iotaInDim S16x512x2048 32 2),
   StableHlo.nullary main_call0_cst (constant S_ .f32 0x7F800000#32),
   StableHlo.nullary main_call0_c (constantI S_ 32 0#32),
   StableHlo.quaternary main_v16 main_call0_v0 main_call0_cst main_call0_c main_call0_v1_0 ((fun x y u v j => (Host.argReduce reducer_argmin_f32_i32 x y u v reducesTo_S16x512x2048_S16x512_d2 h_S_ j).1) : (⟨S16x512x2048, .f32⟩: BufTy).Contents (Elt F) → (⟨S16x512x2048, .i32⟩: BufTy).Contents (Elt F) → (⟨S_, .f32⟩: BufTy).Contents (Elt F) → (⟨S_, .i32⟩: BufTy).Contents (Elt F) → (⟨S16x512, .f32⟩: BufTy).Contents (Elt F)),
   StableHlo.quaternary main_v16 main_call0_v0 main_call0_cst main_call0_c main_v17 ((fun x y u v j => (Host.argReduce reducer_argmin_f32_i32 x y u v reducesTo_S16x512x2048_S16x512_d2 h_S_ j).2) : (⟨S16x512x2048, .f32⟩: BufTy).Contents (Elt F) → (⟨S16x512x2048, .i32⟩: BufTy).Contents (Elt F) → (⟨S_, .f32⟩: BufTy).Contents (Elt F) → (⟨S_, .i32⟩: BufTy).Contents (Elt F) → (⟨S16x512, .i32⟩: BufTy).Contents (Elt F))]

/-- The rows taken. -/
def opsC : List (HloOp τ sig (Elt F)) :=
  [StableHlo.nullary main_call1_c (constantI S_ 32 0#32),
   StableHlo.unary main_call1_c main_call1_v0 ((broadcastInDim S16x512 ![] bcast_S_S16x512) : (⟨S_, .i32⟩: BufTy).Contents (Elt F) → (⟨S16x512, .i32⟩: BufTy).Contents (Elt F)),
   StableHlo.binary main_v17 main_call1_v0 main_call1_v1 ((cmpi .slt) : (⟨S16x512, .i32⟩: BufTy).Contents (Elt F) → (⟨S16x512, .i32⟩: BufTy).Contents (Elt F) → (⟨S16x512, .i1⟩: BufTy).Contents (Elt F)),
   StableHlo.nullary main_call1_c_0 (constantI S_ 32 2048#32),
   StableHlo.unary main_call1_c_0 main_call1_v2 ((broadcastInDim S16x512 ![] bcast_S_S16x512) : (⟨S_, .i32⟩: BufTy).Contents (Elt F) → (⟨S16x512, .i32⟩: BufTy).Contents (Elt F)),
   StableHlo.binary main_v17 main_call1_v2 main_call1_v3 (addi : (⟨S16x512, .i32⟩: BufTy).Contents (Elt F) → (⟨S16x512, .i32⟩: BufTy).Contents (Elt F) → (⟨S16x512, .i32⟩: BufTy).Contents (Elt F)),
   StableHlo.ternary main_call1_v1 main_call1_v3 main_v17 main_call1_v4 (select : (⟨S16x512, .i1⟩: BufTy).Contents (Elt F) → (⟨S16x512, .i32⟩: BufTy).Contents (Elt F) → (⟨S16x512, .i32⟩: BufTy).Contents (Elt F) → (⟨S16x512, .i32⟩: BufTy).Contents (Elt F)),
   StableHlo.unary main_call1_v4 main_call1_v5 ((broadcastInDim S16x512x1 ![0, 1] bcast_S16x512_S16x512x1_0_1) : (⟨S16x512, .i32⟩: BufTy).Contents (Elt F) → (⟨S16x512x1, .i32⟩: BufTy).Contents (Elt F)),
   StableHlo.nullary main_call1_c_1 (constantI S1 32 2047#32),
   StableHlo.nullary main_call1_c_2 (constantI S_ 32 0#32),
   StableHlo.unary main_call1_c_2 main_call1_v6 ((broadcastInDim S16x512x1 ![] bcast_S_S16x512x1) : (⟨S_, .i32⟩: BufTy).Contents (Elt F) → (⟨S16x512x1, .i32⟩: BufTy).Contents (Elt F)),
   StableHlo.binary main_call1_v5 main_call1_v6 main_call1_v7 ((cmpi .sge) : (⟨S16x512x1, .i32⟩: BufTy).Contents (Elt F) → (⟨S16x512x1, .i32⟩: BufTy).Contents (Elt F) → (⟨S16x512x1, .i1⟩: BufTy).Contents (Elt F)),
   StableHlo.unary main_call1_c_1 main_call1_v8 ((broadcastInDim S1x1x1 ![2] bcast_S1_S1x1x1_2) : (⟨S1, .i32⟩: BufTy).Contents (Elt F) → (⟨S1x1x1, .i32⟩: BufTy).Contents (Elt F)),
   StableHlo.unary main_call1_v8 main_call1_v9 ((broadcastInDim S16x512x1 ![0, 1, 2] bcast_S1x1x1_S16x512x1_0_1_2) : (⟨S1x1x1, .i32⟩: BufTy).Contents (Elt F) → (⟨S16x512x1, .i32⟩: BufTy).Contents (Elt F)),
   StableHlo.binary main_call1_v5 main_call1_v9 main_call1_v10 ((cmpi .sle) : (⟨S16x512x1, .i32⟩: BufTy).Contents (Elt F) → (⟨S16x512x1, .i32⟩: BufTy).Contents (Elt F) → (⟨S16x512x1, .i1⟩: BufTy).Contents (Elt F)),
   StableHlo.binary main_call1_v7 main_call1_v10 main_call1_v11 (andi : (⟨S16x512x1, .i1⟩: BufTy).Contents (Elt F) → (⟨S16x512x1, .i1⟩: BufTy).Contents (Elt F) → (⟨S16x512x1, .i1⟩: BufTy).Contents (Elt F)),
   StableHlo.nullary main_call1_c_3 (constantI S_ 1 1#1),
   StableHlo.binary main_call1_v11 main_call1_c_3 main_call1_v12 ((fun x v => Host.reduce IntOp.andi x v reducesTo_S16x512x1_S16x512_d2 h_S_) : (⟨S16x512x1, .i1⟩: BufTy).Contents (Elt F) → (⟨S_, .i1⟩: BufTy).Contents (Elt F) → (⟨S16x512, .i1⟩: BufTy).Contents (Elt F)),
   StableHlo.binary main_arg2 main_call1_v5 main_call1_v13 ((fun x i => Host.gather gather_S2048x256_S16x512x1_S16x512x256_2_0_n_n_0_2_1256 x i) : (⟨S2048x256, .f32⟩: BufTy).Contents (Elt F) → (⟨S16x512x1, .i32⟩: BufTy).Contents (Elt F) → (⟨S16x512x256, .f32⟩: BufTy).Contents (Elt F)),
   StableHlo.unary main_call1_v12 main_call1_v14 ((broadcastInDim S16x512x256 ![0, 1] bcast_S16x512_S16x512x256_0_1) : (⟨S16x512, .i1⟩: BufTy).Contents (Elt F) → (⟨S16x512x256, .i1⟩: BufTy).Contents (Elt F)),
   StableHlo.nullary main_call1_cst (constant S_ .f32 0x7FC00000#32),
   StableHlo.unary main_call1_cst main_call1_v15 ((broadcastInDim S16x512x256 ![] bcast_S_S16x512x256) : (⟨S_, .f32⟩: BufTy).Contents (Elt F) → (⟨S16x512x256, .f32⟩: BufTy).Contents (Elt F)),
   StableHlo.ternary main_call1_v14 main_call1_v13 main_call1_v15 main_v18 (select : (⟨S16x512x256, .i1⟩: BufTy).Contents (Elt F) → (⟨S16x512x256, .f32⟩: BufTy).Contents (Elt F) → (⟨S16x512x256, .f32⟩: BufTy).Contents (Elt F) → (⟨S16x512x256, .f32⟩: BufTy).Contents (Elt F))]

/-- The mean. -/
def opsD : List (HloOp τ sig (Elt F)) :=
  [StableHlo.reshape main_v18 main_v19 (rfl : (.f32 : EltTy) = .f32) shapeCasts_S16x512x256_S8192x256,
   StableHlo.binary main_v19 main_arg3 main_v20 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
   StableHlo.unary main_arg4 main_v21 (broadcastInDim S1x256 ![1] bcast_S256_S1x256_1 : (⟨S256, .f32⟩ : BufTy).Contents (Elt F) → (⟨S1x256, .f32⟩ : BufTy).Contents (Elt F)),
   StableHlo.unary main_v21 main_v22 (broadcastInDim S8192x256 ![0, 1] bcast_S1x256_S8192x256_0_1 : (⟨S1x256, .f32⟩ : BufTy).Contents (Elt F) → (⟨S8192x256, .f32⟩ : BufTy).Contents (Elt F)),
   StableHlo.binary main_v20 main_v22 main_v23 (addf : (⟨S8192x256, .f32⟩ : BufTy).Contents (Elt F) → (⟨S8192x256, .f32⟩ : BufTy).Contents (Elt F) → (⟨S8192x256, .f32⟩ : BufTy).Contents (Elt F)),
   StableHlo.binary main_v23 main_v19 main_v24 (subf : (⟨S8192x256, .f32⟩ : BufTy).Contents (Elt F) → (⟨S8192x256, .f32⟩ : BufTy).Contents (Elt F) → (⟨S8192x256, .f32⟩ : BufTy).Contents (Elt F)),
   StableHlo.binary main_v24 main_v24 main_v25 (mulf : (⟨S8192x256, .f32⟩ : BufTy).Contents (Elt F) → (⟨S8192x256, .f32⟩ : BufTy).Contents (Elt F) → (⟨S8192x256, .f32⟩ : BufTy).Contents (Elt F)),
   StableHlo.nullary main_cst_4 (constant S_ .f32 0x00000000#32),
   StableHlo.binary main_v25 main_cst_4 main_v26 ((fun x v => Host.reduceAdd x v reducesTo_S8192x256_S_d0_1 h_S_) : (⟨S8192x256, .f32⟩ : BufTy).Contents (Elt F) → (⟨S_, .f32⟩ : BufTy).Contents (Elt F) → (⟨S_, .f32⟩ : BufTy).Contents (Elt F)),
   StableHlo.nullary main_cst_5 (constant S_ .f32 0x4A000000#32),
   StableHlo.binary main_v26 main_cst_5 main_v27 (Host.divf : (⟨S_, .f32⟩ : BufTy).Contents (Elt F) → (⟨S_, .f32⟩ : BufTy).Contents (Elt F) → (⟨S_, .f32⟩ : BufTy).Contents (Elt F))]

/-- The whole line. -/
def ops : List (HloOp τ sig (Elt F)) := opsA ++ (opsB ++ (opsC ++ opsD))

set_option maxRecDepth 100000 in
theorem main_eq (d : Dev nD) : main (F := F) d = seq ops := by
  simp only [ops, seq_append]
  simp only [main, fn_argmin.body, fn_take.body, fn_where.body, opsA, opsB, opsC, opsD, seq, bind_assoc, pure_bind]
  rfl

theorem scopedRefs_eq : (Finset.univ.filter fun b : Ref sig .tc => b.isScoped) = ∅ := by decide +kernel
theorem scopedSems_eq : (Finset.univ.filter fun sm : SemLoc sig => sm.isScoped .tc) = ∅ := by decide +kernel

theorem opsA_sub : (opsA : List (HloOp τ sig (Elt F))).Forall fun op => op.bufs ⊆ tcRefs τ sig := ⟨reshape_bufs_sub .., nullary_bufs_sub .., binary_bufs_sub .., nullary_bufs_sub .., unary_bufs_sub .., binary_bufs_sub .., binary_bufs_sub .., nullary_bufs_sub .., binary_bufs_sub .., unary_bufs_sub .., binary_bufs_sub .., nullary_bufs_sub .., binary_bufs_sub .., binary_bufs_sub .., nullary_bufs_sub .., unary_bufs_sub .., binary_bufs_sub .., unary_bufs_sub .., binary_bufs_sub .., unary_bufs_sub .., unary_bufs_sub .., binary_bufs_sub ..⟩
theorem opsB_sub : (opsB : List (HloOp τ sig (Elt F))).Forall fun op => op.bufs ⊆ tcRefs τ sig := ⟨nullary_bufs_sub .., nullary_bufs_sub .., nullary_bufs_sub .., quaternary_bufs_sub .., quaternary_bufs_sub ..⟩
theorem opsC_sub : (opsC : List (HloOp τ sig (Elt F))).Forall fun op => op.bufs ⊆ tcRefs τ sig := ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsD_sub : (opsD : List (HloOp τ sig (Elt F))).Forall fun op => op.bufs ⊆ tcRefs τ sig := ⟨reshape_bufs_sub .., binary_bufs_sub .., unary_bufs_sub .., unary_bufs_sub .., binary_bufs_sub .., binary_bufs_sub .., binary_bufs_sub .., nullary_bufs_sub .., binary_bufs_sub .., nullary_bufs_sub .., binary_bufs_sub ..⟩
theorem ops_sub : (ops : List (HloOp τ sig (Elt F))).Forall fun op => op.bufs ⊆ tcRefs τ sig :=
  List.forall_append.mpr ⟨opsA_sub, List.forall_append.mpr ⟨opsB_sub, List.forall_append.mpr ⟨opsC_sub, opsD_sub⟩⟩⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The results as functions of the arguments -/

/-- The average of each pair of neighbouring rows. -/
def meanRows (x : FVec F S16x1024x256 .f32) : FVec F S16x512x256 .f32 :=
  Host.divf (Host.reduceAdd (shapeCast S16x512x2x256 x shapeCasts_S16x1024x256_S16x512x2x256) (constant S_ .f32 0x00000000#32) reducesTo_S16x512x2x256_S16x512x256_d2 h_S_)
    (broadcastInDim S16x512x256 ![] bcast_S_S16x512x256 (constant S_ .f32 0x40000000#32))

/-- The distance of every averaged row from every row of the table. -/
def dists (z : FVec F S16x512x256 .f32) (cb : FVec F S2048x256 .f32) : FVec F S16x512x2048 .f32 :=
  addf (subf (broadcastInDim S16x512x2048 ![0, 1, 2] bcast_S16x512x1_S16x512x2048_0_1_2
        (broadcastInDim S16x512x1 ![0, 1] bcast_S16x512_S16x512x1_0_1
          (Host.reduceAdd (mulf z z) (constant S_ .f32 0x00000000#32) reducesTo_S16x512x256_S16x512_d2 h_S_)))
      (mulf (broadcastInDim S16x512x2048 ![] bcast_S_S16x512x2048 (constant S_ .f32 0x40000000#32))
        (Host.dotGeneral dot_S16x512x256_S2048x256_S16x512x2048_2_1_01_0_n_n none z cb)))
    (broadcastInDim S16x512x2048 ![0, 1, 2] bcast_S1x1x2048_S16x512x2048_0_1_2
      (broadcastInDim S1x1x2048 ![2] bcast_S2048_S1x1x2048_2
        (Host.reduceAdd (mulf cb cb) (constant S_ .f32 0x00000000#32) reducesTo_S2048x256_S2048_d1 h_S_)))

/-- The number of the nearest row of the table, the first where several are. -/
def nearest (D : FVec F S16x512x2048 .f32) : IVec S16x512 32 := fun j =>
  (Host.argReduce reducer_argmin_f32_i32 D (iotaInDim S16x512x2048 32 2) (constant S_ .f32 0x7F800000#32) (constantI S_ 32 0#32)
    reducesTo_S16x512x2048_S16x512_d2 h_S_ j).2

/-- A row number made non-negative, as a start of a gather. -/
def starts (ids : IVec S16x512 32) : IVec S16x512x1 32 :=
  broadcastInDim S16x512x1 ![0, 1] bcast_S16x512_S16x512x1_0_1
    (select (cmpi .slt ids (broadcastInDim S16x512 ![] bcast_S_S16x512 (constantI S_ 32 0#32)))
      (addi ids (broadcastInDim S16x512 ![] bcast_S_S16x512 (constantI S_ 32 2048#32))) ids)

/-- Where the start is the number of a row. -/
def inRows (st : IVec S16x512x1 32) : IVec S16x512 1 :=
  Host.reduce IntOp.andi
    (andi (cmpi .sge st (broadcastInDim S16x512x1 ![] bcast_S_S16x512x1 (constantI S_ 32 0#32)))
      (cmpi .sle st (broadcastInDim S16x512x1 ![0, 1, 2] bcast_S1x1x1_S16x512x1_0_1_2 (broadcastInDim S1x1x1 ![2] bcast_S1_S1x1x1_2 (constantI S1 32 2047#32)))))
    (constantI S_ 1 1#1) reducesTo_S16x512x1_S16x512_d2 h_S_

/-- The rows of the table at the numbers. -/
def taken (cb : FVec F S2048x256 .f32) (ids : IVec S16x512 32) : FVec F S16x512x256 .f32 :=
  select (broadcastInDim S16x512x256 ![0, 1] bcast_S16x512_S16x512x256_0_1 (inRows (starts ids)))
    (Host.gather gather_S2048x256_S16x512x1_S16x512x256_2_0_n_n_0_2_1256 cb (starts ids))
    (broadcastInDim S16x512x256 ![] bcast_S_S16x512x256 (constant S_ .f32 0x7FC00000#32))

/-- The mean squared difference between the rows' images and the rows. -/
def meanSq (e : FVec F S16x512x256 .f32) (w : FVec F S256x256 .f32) (b : FVec F S256 .f32) : FVec F S_ .f32 :=
  have v19 : FVec F S8192x256 .f32 := shapeCast S8192x256 e shapeCasts_S16x512x256_S8192x256
  have v24 : FVec F S8192x256 .f32 := subf (addf (Host.dotGeneral dot_S8192x256_S256x256_S8192x256_1_0_0_1_n_n none v19 w)
    (broadcastInDim S8192x256 ![0, 1] bcast_S1x256_S8192x256_0_1 (broadcastInDim S1x256 ![1] bcast_S256_S1x256_1 b))) v19
  Host.divf (Host.reduceAdd (mulf v24 v24) (constant S_ .f32 0x00000000#32) reducesTo_S8192x256_S_d0_1 h_S_) (constant S_ .f32 0x4A000000#32)

theorem A_v16 (V : Valuation τ sig (Elt F)) : after opsA V main_v16 = dists (meanRows (V main_arg1)) (V main_arg2) := by
  unfold opsA
  after_reads_simp
  rfl
theorem B_v17 (V : Valuation τ sig (Elt F)) : after opsB V main_v17 = nearest (V main_v16) := by
  unfold opsB
  after_reads_simp
  rfl
theorem C_v18 (V : Valuation τ sig (Elt F)) : after opsC V main_v18 = taken (V main_arg2) (V main_v17) := by
  unfold opsC
  after_reads_simp
  rfl
theorem D_v27 (V : Valuation τ sig (Elt F)) : after opsD V main_v27 = meanSq (V main_v18) (V main_arg3) (V main_arg4) := by
  unfold opsD
  after_reads_simp
  rfl

/-- The references that the four parts write. -/
def wA : List (Ref sig .tc) := [main_v0, main_cst, main_v1, main_cst_0, main_v2, main_v3, main_v4, main_cst_1, main_v5, main_v6, main_v7, main_cst_2, main_v8, main_v9, main_cst_3, main_v10, main_v11, main_v12, main_v13, main_v14, main_v15, main_v16]
def wB : List (Ref sig .tc) := [main_call0_v0, main_call0_cst, main_call0_c, main_call0_v1_0, main_v17]
def wC : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v18]
def wD : List (Ref sig .tc) := [main_v19, main_v20, main_v21, main_v22, main_v23, main_v24, main_v25, main_cst_4, main_v26, main_cst_5, main_v27]

theorem keepA (V : Valuation τ sig (Elt F)) (r : Ref sig .tc) (h : r ∉ wA) : after opsA V r = V r :=
  after_of_writes_sub (W := wA) opsA V (forall_writes_sub_of_map rfl) h
theorem keepB (V : Valuation τ sig (Elt F)) (r : Ref sig .tc) (h : r ∉ wB) : after opsB V r = V r :=
  after_of_writes_sub (W := wB) opsB V (forall_writes_sub_of_map rfl) h
theorem keepC (V : Valuation τ sig (Elt F)) (r : Ref sig .tc) (h : r ∉ wC) : after opsC V r = V r :=
  after_of_writes_sub (W := wC) opsC V (forall_writes_sub_of_map rfl) h
theorem keepD (V : Valuation τ sig (Elt F)) (r : Ref sig .tc) (h : r ∉ wD) : after opsD V r = V r :=
  after_of_writes_sub (W := wD) opsD V (forall_writes_sub_of_map rfl) h

/-- Two lines one after the other. -/
theorem after_app (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

theorem after_ops (V : Valuation τ sig (Elt F)) (r : Ref sig .tc) : after ops V r = after opsD (after opsC (after opsB (after opsA V))) r := by
  unfold ops
  rw [after_app, after_app, after_app]

variable (V : Valuation τ sig (Elt F))

theorem v17_eq : after ops V main_v17 = nearest (dists (meanRows (V main_arg1)) (V main_arg2)) := by
  rw [after_ops, keepD _ _ (by decide), keepC _ _ (by decide), B_v17, A_v16]

theorem v18_eq : after ops V main_v18 = taken (V main_arg2) (nearest (dists (meanRows (V main_arg1)) (V main_arg2))) := by
  rw [after_ops, keepD _ _ (by decide), C_v18, B_v17, A_v16, keepB _ main_arg2 (by decide), keepA _ main_arg2 (by decide)]

theorem v27_eq : after ops V main_v27
    = meanSq (taken (V main_arg2) (nearest (dists (meanRows (V main_arg1)) (V main_arg2)))) (V main_arg3) (V main_arg4) := by
  rw [after_ops, D_v27, C_v18, B_v17, A_v16, keepB _ main_arg2 (by decide), keepA _ main_arg2 (by decide),
    keepC _ main_arg3 (by decide), keepB _ main_arg3 (by decide), keepA _ main_arg3 (by decide),
    keepC _ main_arg4 (by decide), keepB _ main_arg4 (by decide), keepA _ main_arg4 (by decide)]

theorem arg_eq (r : Ref sig .tc) (hA : r ∉ wA) (hB : r ∉ wB) (hC : r ∉ wC) (hD : r ∉ wD) : after ops V r = V r := by
  rw [after_ops, keepD _ _ hD, keepC _ _ hC, keepB _ _ hB, keepA _ _ hA]

/-! The arguments stay as they were. -/

theorem arg0 (V : Valuation τ sig (Elt F)) : after ops V main_arg0 = V main_arg0 := arg_eq V main_arg0 (by decide +kernel) (by decide +kernel) (by decide +kernel) (by decide +kernel)
theorem arg1 (V : Valuation τ sig (Elt F)) : after ops V main_arg1 = V main_arg1 := arg_eq V main_arg1 (by decide +kernel) (by decide +kernel) (by decide +kernel) (by decide +kernel)
theorem arg2 (V : Valuation τ sig (Elt F)) : after ops V main_arg2 = V main_arg2 := arg_eq V main_arg2 (by decide +kernel) (by decide +kernel) (by decide +kernel) (by decide +kernel)
theorem arg3 (V : Valuation τ sig (Elt F)) : after ops V main_arg3 = V main_arg3 := arg_eq V main_arg3 (by decide +kernel) (by decide +kernel) (by decide +kernel) (by decide +kernel)
theorem arg4 (V : Valuation τ sig (Elt F)) : after ops V main_arg4 = V main_arg4 := arg_eq V main_arg4 (by decide +kernel) (by decide +kernel) (by decide +kernel) (by decide +kernel)

end Cert.Proof.R

end
-- ==== Proof.Frames.lean ====
/-
  The frames: the kernel at the bit-exact floats and over the extended reals, and the reference over the extended reals, run without fault,
  leave their arguments as they were, and end with every semaphore counter at zero.
-/
module

public import proofs.«01_k».proof.Defs
public import proofs.«01_k».proof.Proof.Gen.Kernel
public import proofs.«01_k».proof.Proof.First
public import proofs.«01_k».proof.Proof.Vals
public import proofs.«01_k».proof.Proof.Ref
public import Idealize.ShloMosaic.Lib.Quiescent

@[expose] public section

noncomputable section

namespace Cert.Proof

open Idealize.ShloMosaic Idealize.SL.Sem

/-- The kernel over any floats at which every row number names a row of the table: its arguments stay, and every counter ends at zero. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hin : ∀ d x, (ia m d x).toNat < 2048) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run (Cert.KernelIdeal.defs (F := F)) (Cert.KernelIdeal.threads (F := F)) _).mono
    (fun _ h => ⟨fun c => ⟨(h.1 c).2.2.2.1.trans (at5_arg m c _ (.inl rfl)), (h.1 c).2.2.2.2.1.trans (at5_arg m c _ (.inr (.inl rfl))),
      (h.1 c).2.2.2.2.2.1.trans (at5_arg m c _ (.inr (.inr (.inl rfl)))), (h.1 c).2.2.2.2.2.2.1.trans (at5_arg m c _ (.inr (.inr (.inr (.inl rfl))))),
      (h.1 c).2.2.2.2.2.2.2.trans (at5_arg m c _ (.inr (.inr (.inr (.inr rfl)))))⟩, h.2⟩)
    (run_main (F := F) m ρ hin)

/-- Over the extended reals every row number names a row of the table. -/
theorem hin_ideal (m : (ℓ : Loc Cert.KernelIdeal.nD Cert.KernelIdeal.τ Cert.KernelIdeal.sig) → Buf (Elt Ideal) ℓ) :
    ∀ d x, (ia m d x).toNat < 2048 := hin_of m (fun x c2 cb j => idxBlock_ideal_lt x c2 cb j)

/-! The two printed programs of the kernel have the same text, so their body tables are equal. -/

theorem defs₀_eq : Cert.Kernel.defs₀ (F := Bits) = Cert.KernelIdeal.defs₀ (F := Bits) := by
  funext p ℓ a
  match p, ℓ with
  | .tc, ⟨0, _⟩ => rfl
  | .tc, ⟨1, _⟩ => rfl
  | .scScalar _, ⟨0, _⟩ => rfl
  | .scScalar _, ⟨1, _⟩ => rfl
  | .scVector _ _, ⟨0, _⟩ => rfl
  | .scVector _ _, ⟨1, _⟩ => rfl

theorem defs_eq : Cert.Kernel.defs (F := Bits) = Cert.KernelIdeal.defs (F := Bits) :=
  congrArg (fun D : Defs Cert.KernelIdeal.nD Cert.KernelIdeal.τ Cert.KernelIdeal.sig (Elt Bits) Cert.KernelIdeal.Λ₀ =>
    (Cert.KernelIdeal.sc (F := Bits)).defs (Pipeline.defs Cert.KernelIdeal.pcfgs D)) defs₀_eq

/-- The kernel at the bit-exact floats. -/
theorem frame_kernel : Cert.quiescent_Kernel := fun m ρ _ => by
  rw [defs_eq]
  exact frame_any (F := Bits) m ρ (hin_of m (fun x c2 cb j => idxBlock_bits x c2 cb j))

/-- The kernel over the extended reals. -/
theorem frame_kernelIdeal : Cert.quiescent_KernelIdeal := fun m ρ _ => frame_any (F := Ideal) m ρ (hin_ideal m)

/-- The reference over the extended reals. -/
theorem frame_reference : Cert.quiescent_ReferenceIdeal := fun m ρ _ =>
  (θ_run (Cert.ReferenceIdeal.defs (F := Ideal)) (onTc (τ := Cert.ReferenceIdeal.τ) (Cert.ReferenceIdeal.main (F := Ideal))) _).mono
    (fun r h => ⟨fun c => ⟨(h c _).trans (R.arg0 _), (h c _).trans (R.arg1 _), (h c _).trans (R.arg2 _), (h c _).trans (R.arg3 _), (h c _).trans (R.arg4 _)⟩,
      sem_eq_zero_of_no_sems rfl r.2⟩)
    (R.run_main m ρ)

end Cert.Proof

end
-- ==== Proof.ArgMin.lean ====
/-
  The reference's row number over the extended reals: the first place where the row of distances is least.
-/
module

public import proofs.«01_k».proof.Proof.First
public import proofs.«01_k».proof.Proof.Ref
public import Idealize.ShloMosaic.Lib.Pointwise
public import Idealize.ShloMosaic.PureOps.Ideal.Laws

@[expose] public section

noncomputable section

namespace Cert.Proof

open Cert.ReferenceIdeal Cert.ReferenceIdeal.Gen
open Idealize.ShloMosaic

/-- The order in which the reference compares a value with its place: by the value, then by the place. -/
def Before (p q : EReal × BitVec 32) : Prop := p.1 < q.1 ∨ (p.1 = q.1 ∧ p.2.toInt ≤ q.2.toInt)

theorem Before.trans {p q s : EReal × BitVec 32} (h : Before p q) (h' : Before q s) : Before p s := by
  rcases h with h | ⟨h, k⟩ <;> rcases h' with h' | ⟨h', k'⟩
  · exact .inl (h.trans h')
  · exact .inl (h'  ▸ h)
  · exact .inl (h ▸ h')
  · exact .inr ⟨h.trans h', k.trans k'⟩

theorem Before.refl (p : EReal × BitVec 32) : Before p p := .inr ⟨rfl, le_rfl⟩

/-- One step of the reference's comparison keeps one of the two, which is before the other. -/
theorem step_cases (a b : EReal × BitVec 32) :
    (reducer_argmin_f32_i32 (F := Ideal) a b = a ∧ Before a b) ∨ (reducer_argmin_f32_i32 (F := Ideal) a b = b ∧ Before b a) := by
  obtain ⟨x, i⟩ := a
  obtain ⟨y, j⟩ := b
  have hs : IntOp.cmpi .slt i j = BitVec.ofBool (decide (i.toInt < j.toInt)) := by
    simp [IntOp.cmpi, BitVec.slt]
  have hr : reducer_argmin_f32_i32 (F := Ideal) (x, i) (y, j)
      = (if x < y then x else y, if x < y ∨ (x = y ∧ i.toInt < j.toInt) then i else j) := by
    unfold reducer_argmin_f32_i32
    show (Scalar.select (IntOp.ori (Ideal.cmp .olt x y) (Ideal.cmp .une x x)) x y,
      Scalar.select (IntOp.ori (IntOp.ori (Ideal.cmp .olt x y) (Ideal.cmp .une x x)) (IntOp.andi (Ideal.cmp .oeq x y) (IntOp.cmpi .slt i j))) i j) = _
    rw [hs, Ideal.cmp_olt, Ideal.cmp_une, Ideal.cmp_oeq]
    by_cases h1 : x < y <;> by_cases h2 : x = y <;> by_cases h3 : i.toInt < j.toInt <;>
      simp [h1, h2, h3, IntOp.ori, IntOp.andi, Scalar.select]
  rw [hr]
  rcases lt_trichotomy x y with h | h | h
  · exact .inl ⟨by simp [h], .inl h⟩
  · subst h
    by_cases h3 : i.toInt < j.toInt
    · exact .inl ⟨by simp [h3], .inr ⟨rfl, h3.le⟩⟩
    · exact .inr ⟨by simp [h3], .inr ⟨rfl, not_lt.1 h3⟩⟩
  · exact .inr ⟨by simp [h.not_gt, h.ne'], .inl h⟩

/-- The reference's fold keeps one of the pairs, which is before all of them. -/
theorem fold_cases (L : List (EReal × BitVec 32)) : ∀ a : EReal × BitVec 32,
    (L.foldl (reducer_argmin_f32_i32 (F := Ideal)) a = a ∨ L.foldl (reducer_argmin_f32_i32 (F := Ideal)) a ∈ L)
      ∧ Before (L.foldl (reducer_argmin_f32_i32 (F := Ideal)) a) a ∧ ∀ q ∈ L, Before (L.foldl (reducer_argmin_f32_i32 (F := Ideal)) a) q := by
  induction L with
  | nil => exact fun a => ⟨.inl rfl, .refl a, fun q h => nomatch h⟩
  | cons b L ih =>
    intro a
    rw [List.foldl_cons]
    obtain ⟨hm, ha, hq⟩ := ih (reducer_argmin_f32_i32 (F := Ideal) a b)
    rcases step_cases a b with ⟨e, h⟩ | ⟨e, h⟩ <;> rw [e] at hm ha hq ⊢
    · exact ⟨hm.imp id (List.mem_cons_of_mem _), ha, fun q hq' => (List.mem_cons.1 hq').elim (fun e => e ▸ ha.trans h) (hq q)⟩
    · exact ⟨.inr (hm.elim (fun e => by rw [e]; exact List.mem_cons_self) (List.mem_cons_of_mem _)), ha.trans h, fun q hq' => (List.mem_cons.1 hq').elim (fun e => e ▸ ha) (hq q)⟩

theorem toInt_nat (k : Fin 2048) : (BitVec.ofNat 32 k.val).toInt = (k.val : ℤ) := by
  have := k.isLt
  rw [BitVec.toInt_eq_toNat_of_lt (by rw [BitVec.toNat_ofNat]; omega), BitVec.toNat_ofNat, Nat.mod_eq_of_lt (by omega)]

/-- Among a row's values with their places, and the start of the fold, what is before all of them is at the first least place. -/
theorem first_of_before (g : Fin 2048 → EReal) (p : EReal × BitVec 32) (hm : p = (⊤, 0#32) ∨ ∃ k, p = (g k, BitVec.ofNat 32 k.val))
    (hb : ∀ k, Before p (g k, BitVec.ofNat 32 k.val)) : p.2 = BitVec.ofNat 32 (first g).val := by
  obtain ⟨hl, hf⟩ := first_spec g
  have key : ∀ k : Fin 2048, p = (g k, BitVec.ofNat 32 k.val) → p.2 = BitVec.ofNat 32 (first g).val := by
    rintro k rfl
    have h1 : g k ≤ g (first g) := by
      rcases hb (first g) with h | h
      · exact h.le
      · exact h.1.le
    have h2 : first g ≤ k := hf k h1
    have h3 : k ≤ first g := by
      rcases hb (first g) with h | h
      · exact absurd h (not_lt.2 (hl k))
      · have := h.2
        simp only [toInt_nat] at this
        exact_mod_cast this
    rw [le_antisymm h3 h2]
  rcases hm with rfl | ⟨k, hk⟩
  · have h0 : (⊤ : EReal) = g 0 := by
      rcases hb 0 with h | h
      · exact absurd h (not_lt.2 le_top)
      · exact h.1
    refine key 0 ?_
    rw [← h0]
    rfl
  · exact key k hk

/-- What the reference's fold of a row ends with: the start or one of the row's pairs, before all the row's pairs. -/
theorem argReduce_cases {s t u : Shape} {axes : List (Fin s.rank)} (x : FVec Ideal s .f32) (y : IVec s 32) (ix : FVec Ideal u .f32) (iy : IVec u 32)
    (h : s.ReducesTo axes t) (hu : 0 < u.numel) (j : t.Idx) :
    (Host.argReduce (reducer_argmin_f32_i32 (F := Ideal)) x y ix iy h hu j = (ix (Shape.Idx.first hu), iy (Shape.Idx.first hu))
      ∨ ∃ i, h.drop i = j ∧ Host.argReduce (reducer_argmin_f32_i32 (F := Ideal)) x y ix iy h hu j = (x i, y i))
    ∧ ∀ i, h.drop i = j → Before (Host.argReduce (reducer_argmin_f32_i32 (F := Ideal)) x y ix iy h hu j) (x i, y i) := by
  rw [Ideal.argReduce_eq_reduce2, Host.reduce2_eq_foldl_fiber]
  obtain ⟨hm, -, hq⟩ := fold_cases (Host.argReduceFiber x y h j) (ix (Shape.Idx.first hu), iy (Shape.Idx.first hu))
  refine ⟨hm.imp id fun hp => ?_, fun i hi => hq _ ?_⟩
  · unfold Host.argReduceFiber at hp
    obtain ⟨n, hn, e⟩ := List.mem_map.1 hp
    exact ⟨_, of_decide_eq_true (List.mem_filter.1 hn).2, e.symm⟩
  · unfold Host.argReduceFiber
    refine List.mem_map.2 ⟨s.rowMajor i, List.mem_filter.2 ⟨List.mem_finRange _, decide_eq_true ?_⟩, ?_⟩
    · rw [Equiv.symm_apply_apply]; exact hi
    · rw [Equiv.symm_apply_apply]

theorem iota_apply (b : Fin 16) (w : Fin 512) (k : Fin 2048) : iotaInDim S16x512x2048 32 2 (ix3 b w k) = BitVec.ofNat 32 k.val := rfl

theorem drop_iff (b : Fin 16) (w : Fin 512) (i : S16x512x2048.Idx) :
    reducesTo_S16x512x2048_S16x512_d2.drop i = ix2 b w ↔ ∃ k : Fin 2048, ix3 b w k = i :=
  Shape.ReducesTo.fiber_r3_a2 reducesTo_S16x512x2048_S16x512_d2 (ix2 b w) i

theorem start_eq : (constant (F := Ideal) S_ .f32 0x7F800000#32 (Shape.Idx.first h_S_), constantI S_ 32 0#32 (Shape.Idx.first h_S_)) = ((⊤ : EReal), 0#32) :=
  Prod.ext ofBits_top rfl

theorem nearest_fun (D : FVec Ideal S16x512x2048 .f32) : R.nearest D = fun j => (Host.argReduce (reducer_argmin_f32_i32 (F := Ideal)) D (iotaInDim S16x512x2048 32 2) (constant (F := Ideal) S_ .f32 0x7F800000#32)
    (constantI S_ 32 0#32) reducesTo_S16x512x2048_S16x512_d2 h_S_ j).2 := rfl

theorem fold_apply (D : FVec Ideal S16x512x2048 .f32) (b : Fin 16) (w : Fin 512) :
    (Host.argReduce (reducer_argmin_f32_i32 (F := Ideal)) D (iotaInDim S16x512x2048 32 2) (constant (F := Ideal) S_ .f32 0x7F800000#32)
    (constantI S_ 32 0#32) reducesTo_S16x512x2048_S16x512_d2 h_S_ (ix2 b w)).2 = BitVec.ofNat 32 (first fun k => D (ix3 b w k)).val := by
  obtain ⟨hm, hq⟩ := argReduce_cases D (iotaInDim S16x512x2048 32 2) (constant (F := Ideal) S_ .f32 0x7F800000#32) (constantI S_ 32 0#32)
    reducesTo_S16x512x2048_S16x512_d2 h_S_ (ix2 b w)
  generalize Host.argReduce (reducer_argmin_f32_i32 (F := Ideal)) D (iotaInDim S16x512x2048 32 2) (constant (F := Ideal) S_ .f32 0x7F800000#32)
    (constantI S_ 32 0#32) reducesTo_S16x512x2048_S16x512_d2 h_S_ (ix2 b w) = p at hm hq ⊢
  refine first_of_before (fun k => D (ix3 b w k)) p (hm.imp (fun h => h.trans start_eq) ?_) fun k => ?_
  · rintro ⟨i, hi, h⟩
    obtain ⟨k, rfl⟩ := (drop_iff b w i).1 hi
    exact ⟨k, h⟩
  · exact hq _ ((drop_iff b w _).2 ⟨k, rfl⟩)

/-- The reference's row number is the first least place of the row. -/
theorem nearest_apply (D : FVec Ideal S16x512x2048 .f32) (b : Fin 16) (w : Fin 512) :
    R.nearest D (ix2 b w) = BitVec.ofNat 32 (first fun k => D (ix3 b w k)).val :=
  (congrFun (nearest_fun D) (ix2 b w)).trans (fold_apply D b w)

end Cert.Proof

end
-- ==== Proof.Dist.lean ====
/-
  Over the extended reals the kernel's distances are the reference's: the averaged rows, their squared norms in the kernel's order of
  addition, and the products with the table.
-/
module

public import proofs.«01_k».proof.Proof.First
public import proofs.«01_k».proof.Proof.Vals
public import proofs.«01_k».proof.Proof.Ref
public import Idealize.ShloMosaic.Lib.Pointwise

@[expose] public section

noncomputable section

namespace Cert.Proof

open Cert.KernelIdeal Cert.KernelIdeal.Gen
open Idealize.ShloMosaic

/-- The kernel's averaged rows at an index. -/
theorem pay3_apply (X : FVec Ideal S2x512x512 .f32) (r : Fin 1024) (d : Fin 256) :
    k0_pay3 X (ix2 r d) = (X (ix3 ⟨r.val / 512, by omega⟩ ⟨r.val % 512, by omega⟩ ⟨d.val, by omega⟩)
      + X (ix3 ⟨r.val / 512, by omega⟩ ⟨r.val % 512, by omega⟩ ⟨256 + d.val, by omega⟩)) * Ideal.ofBits .f32 0x3F000000#32 := by
  pointwise [k0_pay3]

theorem pay4_apply (X : FVec Ideal S2x512x512 .f32) (cb : FVec Ideal S2048x256 .f32) (r : Fin 1024) (k : Fin 2048) :
    k0_pay4 X cb (ix2 r k) = ∑ d : Fin 256, k0_pay3 X (ix2 r d) * cb (ix2 k d) := by
  pointwise [k0_pay4]

/-- A sum of 256 terms in the kernel's order: the two halves, then sixteen groups of eight. -/
theorem sum_order (f : Fin 256 → EReal) : ∑ k, f k = ∑ l : Fin 8, ∑ s : Fin 16,
    (f ⟨8 * s.val + l.val, by omega⟩ + f ⟨128 + (8 * s.val + l.val), by omega⟩) := by
  rw [Fin.sum_univ_two_halves 128 128 rfl, ← Finset.sum_add_distrib, Fin.sum_univ_tiles 16 8 rfl, Finset.sum_comm]
  refine Finset.sum_congr rfl fun l _ => Finset.sum_congr rfl fun s _ => ?_
  simp only [Nat.mul_comm]

theorem sum_sixteen (g : Fin 16 → EReal) : ∑ s, g s = g 0 + g 1 + g 2 + g 3 + g 4 + g 5 + g 6 + g 7 + g 8 + g 9 + g 10 + g 11 + g 12 + g 13 + g 14 + g 15 := by
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_eight]
  rfl

theorem pay5_apply (X : FVec Ideal S2x512x512 .f32) (r : Fin 1024) (l : Fin 8) (f : Fin 256 → EReal)
    (hf : ∀ d, k0_pay3 (F := Ideal) X (ix2 r d) * k0_pay3 (F := Ideal) X (ix2 r d) = f d) :
    k0_pay5 (F := Ideal) X (ix2 r l) = ∑ s : Fin 16, (f ⟨8 * s.val + l.val, by omega⟩ + f ⟨128 + (8 * s.val + l.val), by omega⟩) := by
  refine Eq.trans ?_ (sum_sixteen _).symm
  pointwise [k0_pay5]
  simp only [hf]

theorem normsOf_apply (p : FVec Ideal S1024x8 .f32) (q : FVec Ideal S1024x4 .f32) (r : Fin 1024) :
    normsOf p q (ix2 r 0) = q (ix2 r 0) + p (ix2 r 4) + (q (ix2 r 2) + p (ix2 r 6)) + (q (ix2 r 1) + p (ix2 r 5) + (q (ix2 r 3) + p (ix2 r 7))) := by
  pointwise [normsOf]

theorem pay6_0 (X : FVec Ideal S2x512x512 .f32) (r : Fin 1024) : k0_pay6 (F := Ideal) X (ix2 r 0) = k0_pay5 (F := Ideal) X (ix2 r 0) := by
  pointwise [k0_pay6]
theorem pay6_1 (X : FVec Ideal S2x512x512 .f32) (r : Fin 1024) : k0_pay6 (F := Ideal) X (ix2 r 1) = k0_pay5 (F := Ideal) X (ix2 r 1) := by
  pointwise [k0_pay6]
theorem pay6_2 (X : FVec Ideal S2x512x512 .f32) (r : Fin 1024) : k0_pay6 (F := Ideal) X (ix2 r 2) = k0_pay5 (F := Ideal) X (ix2 r 2) := by
  pointwise [k0_pay6]
theorem pay6_3 (X : FVec Ideal S2x512x512 .f32) (r : Fin 1024) : k0_pay6 (F := Ideal) X (ix2 r 3) = k0_pay5 (F := Ideal) X (ix2 r 3) := by
  pointwise [k0_pay6]

theorem eight_order (P : Fin 8 → EReal) : P 0 + P 4 + (P 2 + P 6) + (P 1 + P 5 + (P 3 + P 7)) = ∑ l, P l := by
  rw [Fin.sum_univ_eight]
  ac_rfl

/-- The squared norms in the kernel's order are sums of squares. -/
theorem norms_eq (X : FVec Ideal S2x512x512 .f32) (r : Fin 1024) :
    normsOf (F := Ideal) (k0_pay5 X) (k0_pay6 X) (ix2 r 0) = ∑ d : Fin 256, k0_pay3 (F := Ideal) X (ix2 r d) * k0_pay3 (F := Ideal) X (ix2 r d) := by
  rw [sum_order, normsOf_apply, pay6_0, pay6_1, pay6_2, pay6_3]
  simp only [← pay5_apply X r _ (fun d => k0_pay3 (F := Ideal) X (ix2 r d) * k0_pay3 (F := Ideal) X (ix2 r d)) fun _ => rfl]
  exact eight_order fun l => k0_pay5 (F := Ideal) X (ix2 r l)

theorem distsOf_apply (v12 : FVec Ideal S1024x2048 .f32) (n : FVec Ideal S1024x1 .f32) (c2 : FVec Ideal S1x2048 .f32) (r : Fin 1024) (k : Fin 2048) :
    distsOf v12 n c2 (ix2 r k) = (n (ix2 r 0) - Ideal.ofBits .f32 0x40000000#32 * v12 (ix2 r k)) + c2 (ix2 0 k) := by
  pointwise [distsOf]

theorem half_eq : Ideal.ofBits .f32 0x3F000000#32 = ((2⁻¹ : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- Half of a number is the number divided by two, the infinities included. -/
theorem div_two (y : EReal) : Ideal.div y ((2 : ℝ) : EReal) = y * ((2⁻¹ : ℝ) : EReal) := by
  unfold Ideal.div
  rw [if_neg (by norm_cast), EReal.coe_inv]

theorem meanRows_apply (x : FVec Ideal S16x1024x256 .f32) (b : Fin 16) (w : Fin 512) (d : Fin 256) :
    R.meanRows x (ix3 b w d) = (x (ix3 b ⟨2 * w.val, by omega⟩ d) + x (ix3 b ⟨2 * w.val + 1, by omega⟩ d)) * ((2⁻¹ : ℝ) : EReal) := by
  pointwise [R.meanRows]
  rw [two_eq, div_two, Fin.sum_univ_two]
  simp only [Nat.mul_comm]
  rfl

theorem mean_eq (x : FVec Ideal S16x1024x256 .f32) (t : Fin 8) (r : Fin 1024) (d : Fin 256) :
    k0_pay3 (F := Ideal) (rowsAt (shapeCast S16x512x512 x shapeCasts_S16x1024x256_S16x512x512) t) (ix2 r d)
      = R.meanRows x (ix3 ⟨2 * t.val + r.val / 512, by omega⟩ ⟨r.val % 512, by omega⟩ d) := by
  rw [pay3_apply, meanRows_apply, half_eq]
  pointwise [rowsAt]
  have hd := d.isLt
  have e0 : r.val % 512 * 2 + d.val / 256 = 2 * (r.val % 512) := by omega
  have e1 : r.val % 512 * 2 + (256 + d.val) / 256 = 2 * (r.val % 512) + 1 := by omega
  have e2 : d.val % 256 = d.val := by omega
  simp only [e0, e1, e2]

theorem dists_apply (z : FVec Ideal S16x512x256 .f32) (cb : FVec Ideal S2048x256 .f32) (b : Fin 16) (w : Fin 512) (k : Fin 2048) :
    R.dists z cb (ix3 b w k) = ((∑ d : Fin 256, z (ix3 b w d) * z (ix3 b w d)) - Ideal.ofBits .f32 0x40000000#32 * (∑ d : Fin 256, z (ix3 b w d) * cb (ix2 k d)))
      + ∑ d : Fin 256, cb (ix2 k d) * cb (ix2 k d) := by
  pointwise [R.dists]

theorem normRow_apply (cb : FVec Ideal S2048x256 .f32) (k : Fin 2048) :
    normRow cb (ix1 k) = ∑ d : Fin 256, cb (ix2 k d) * cb (ix2 k d) := by
  pointwise [normRow]

theorem castRow_apply (v : FVec Ideal S2048 .f32) (k : Fin 2048) : shapeCast S1x2048 v shapeCasts_S2048_S1x2048 (ix2 0 k) = v (ix1 k) := by
  pointwise []

/-- The kernel's distances are the reference's. -/
theorem dists_eq (x : FVec Ideal S16x1024x256 .f32) (cb : FVec Ideal S2048x256 .f32) (t : Fin 8) (r : Fin 1024) (k : Fin 2048) :
    distsOf (F := Ideal) (k0_pay4 (rowsAt (shapeCast S16x512x512 x shapeCasts_S16x1024x256_S16x512x512) t) cb)
        (normsOf (k0_pay5 (rowsAt (shapeCast S16x512x512 x shapeCasts_S16x1024x256_S16x512x512) t)) (k0_pay6 (rowsAt (shapeCast S16x512x512 x shapeCasts_S16x1024x256_S16x512x512) t)))
        (shapeCast S1x2048 (normRow cb) shapeCasts_S2048_S1x2048) (ix2 r k)
      = R.dists (R.meanRows x) cb (ix3 ⟨2 * t.val + r.val / 512, by omega⟩ ⟨r.val % 512, by omega⟩ k) := by
  rw [distsOf_apply, norms_eq, pay4_apply, castRow_apply, normRow_apply, dists_apply]
  simp only [mean_eq]

end Cert.Proof

end
-- ==== Proof.Numbers.lean ====
/-
  Over the extended reals the kernel's row numbers are the reference's: the first result, and the numbers that the second call reads.
-/
module

public import proofs.«01_k».proof.Proof.ArgMin
public import proofs.«01_k».proof.Proof.Dist

@[expose] public section

noncomputable section

namespace Cert.Proof

open Cert.KernelIdeal Cert.KernelIdeal.Gen
open Idealize.ShloMosaic

/-- The first nearest row of the table, over the extended reals. -/
def sel (x : FVec Ideal S16x1024x256 .f32) (cb : FVec Ideal S2048x256 .f32) (b : Fin 16) (w : Fin 512) : Fin 2048 :=
  first fun k => R.dists (R.meanRows x) cb (ix3 b w k)

theorem sel_congr (x : FVec Ideal S16x1024x256 .f32) (cb : FVec Ideal S2048x256 .f32) {b b' : Fin 16} {w w' : Fin 512}
    (hb : b.val = b'.val) (hw : w.val = w'.val) : sel x cb b w = sel x cb b' w' := by
  rw [Fin.ext hb, Fin.ext hw]

/-- The kernel's row number of row `r` of block `t`. -/
theorem nums_apply (x : FVec Ideal S16x1024x256 .f32) (cb : FVec Ideal S2048x256 .f32) (t : Fin 8) (r : Fin 1024) :
    nums x cb (ix3 t 0 r) = BitVec.ofNat 32 (sel x cb ⟨2 * t.val + r.val / 512, by omega⟩ ⟨r.val % 512, by omega⟩).val := by
  refine (idxBlock_ideal (rowsAt (shapeCast S16x512x512 x shapeCasts_S16x1024x256_S16x512x512) t)
    (shapeCast S1x2048 (normRow cb) shapeCasts_S2048_S1x2048) cb r).trans ?_
  exact congrArg (fun n : Fin 2048 => BitVec.ofNat 32 n.val) (congrArg first (funext fun k => dists_eq x cb t r k))

theorem nearest_sel (x : FVec Ideal S16x1024x256 .f32) (cb : FVec Ideal S2048x256 .f32) (b : Fin 16) (w : Fin 512) :
    R.nearest (R.dists (R.meanRows x) cb) (ix2 b w) = BitVec.ofNat 32 (sel x cb b w).val :=
  nearest_apply _ b w

theorem castNums_apply (v : IVec S8x1x1024 32) (b : Fin 16) (w : Fin 512) :
    shapeCast S16x512 v shapeCasts_S8x1x1024_S16x512 (ix2 b w) = v (ix3 ⟨b.val / 2, by omega⟩ 0 ⟨(b.val % 2) * 512 + w.val, by omega⟩) := by
  pointwise []

theorem listNums_apply (v : IVec S8x1x1024 32) (p : Fin 64) (q : Fin 128) :
    shapeCast S64x128 v shapeCasts_S8x1x1024_S64x128 (ix2 p q) = v (ix3 ⟨p.val / 8, by omega⟩ 0 ⟨(p.val % 8) * 128 + q.val, by omega⟩) := by
  pointwise []

/-- The kernel's first result is the reference's. -/
theorem first_result (x : FVec Ideal S16x1024x256 .f32) (cb : FVec Ideal S2048x256 .f32) :
    shapeCast S16x512 (nums x cb) shapeCasts_S8x1x1024_S16x512 = R.nearest (R.dists (R.meanRows x) cb) := by
  funext j
  obtain ⟨b, w, rfl⟩ : ∃ (b : Fin 16) (w : Fin 512), (ix2 b w : S16x512.Idx) = j := ⟨j 0, j 1, (eq_ix2 (n0 := 16) (n1 := 512) j).symm⟩
  refine (castNums_apply _ b w).trans ((nums_apply x cb _ _).trans (Eq.trans ?_ (nearest_sel x cb b w).symm))
  exact congrArg (fun n : Fin 2048 => BitVec.ofNat 32 n.val) (sel_congr x cb (by simp only; omega) (by simp only; omega))

/-- The table row that entry `r` of the second call's list names. -/
theorem rowAt_sel (x : FVec Ideal S16x1024x256 .f32) (cb : FVec Ideal S2048x256 .f32) (r : Fin 8192) :
    rowAt (numsIn x cb) r = sel x cb ⟨r.val / 512, by omega⟩ ⟨r.val % 512, by omega⟩ := by
  unfold rowAt numsIn
  rw [listNums_apply, nums_apply]
  have hs := (sel x cb ⟨r.val / 512, by omega⟩ ⟨r.val % 512, by omega⟩).isLt
  rw [sel_congr x cb (b' := ⟨r.val / 512, by omega⟩) (w' := ⟨r.val % 512, by omega⟩) (by simp only; omega) (by simp only; omega)]
  refine Fin.ext ?_
  rw [Fin.val_ofNat, BitVec.toNat_ofNat, Nat.mod_eq_of_lt (a := _) (b := 2 ^ 32) (by omega), Nat.mod_eq_of_lt hs]

end Cert.Proof

end
-- ==== Proof.Rows.lean ====
/-
  Over the extended reals the second call's rows are the rows of the table that the reference takes.
-/
module

public import proofs.«01_k».proof.Proof.Numbers

@[expose] public section

noncomputable section

namespace Cert.Proof

open Idealize.ShloMosaic

section

open Cert.ReferenceIdeal Cert.ReferenceIdeal.Gen

theorem toInt_row (n : Fin 2048) : (BitVec.ofNat 32 n.val).toInt = (n.val : ℤ) := toInt_nat n

/-- A row number is its own start of a gather. -/
theorem starts_apply (ids : IVec S16x512 32) (b : Fin 16) (w : Fin 512) (n : Fin 2048) (h : ids (ix2 b w) = BitVec.ofNat 32 n.val) :
    R.starts ids (ix3 b w 0) = BitVec.ofNat 32 n.val := by
  pointwise [R.starts]
  rw [h]
  have : IntOp.cmpi .slt (BitVec.ofNat 32 n.val) 0#32 = 0#1 := by
    show BitVec.ofBool (decide ((BitVec.ofNat 32 n.val).toInt < (0#32 : BitVec 32).toInt)) = 0#1
    rw [toInt_row, decide_eq_false (by simp)]
    rfl
  rw [this]
  rfl

/-- A row number is in the table. -/
theorem inRows_apply (st : IVec S16x512x1 32) (b : Fin 16) (w : Fin 512) (n : Fin 2048) (h : st (ix3 b w 0) = BitVec.ofNat 32 n.val) :
    R.inRows st (ix2 b w) = 1#1 := by
  have hn := n.isLt
  have h1 : IntOp.cmpi .sge (BitVec.ofNat 32 n.val) 0#32 = 1#1 := by
    simp [IntOp.cmpi, BitVec.sle, toInt_row]
  have h2 : IntOp.cmpi .sle (BitVec.ofNat 32 n.val) 2047#32 = 1#1 := by
    have : (2047#32 : BitVec 32).toInt = 2047 := by decide
    show BitVec.ofBool (decide ((BitVec.ofNat 32 n.val).toInt ≤ (2047#32 : BitVec 32).toInt)) = 1#1
    rw [toInt_row, this, decide_eq_true (by omega)]
    rfl
  have hu : (Finset.univ : Finset (Fin 1)) = {0} := rfl
  pointwise [R.inRows]
  rw [hu, Finset.fold_singleton, h, h1, h2]
  rfl

/-- The gather of whole rows reads the row that the start names. -/
theorem gatherRow_apply (x : FVec Ideal S2048x256 .f32) (st : IVec S16x512x1 32) (b : Fin 16) (w : Fin 512) (d : Fin 256) (n : Fin 2048)
    (h : st (ix3 b w 0) = BitVec.ofNat 32 n.val) :
    Host.gather gather_S2048x256_S16x512x1_S16x512x256_2_0_n_n_0_2_1256 x st (ix3 b w d) = x (ix2 n d) := by
  have hn := n.isLt
  unfold Host.gather
  refine congrArg x (funext fun a => Fin.ext ?_)
  have hsi : gather_S2048x256_S16x512x1_S16x512x256_2_0_n_n_0_2_1256.siIdx (ix3 b w d) ⟨0, Nat.one_pos⟩ = ix3 b w 0 := by
    funext c
    match c with
    | ⟨0, _⟩ => rfl
    | ⟨1, _⟩ => rfl
    | ⟨2, _⟩ => rfl
  match a with
  | ⟨0, _⟩ =>
    show min (st (gather_S2048x256_S16x512x1_S16x512x256_2_0_n_n_0_2_1256.siIdx (ix3 b w d) ⟨0, Nat.one_pos⟩)).toInt.toNat (2048 - 1) + 0 + 0 = n.val
    rw [hsi, h, toInt_row]
    omega
  | ⟨1, _⟩ =>
    show 0 + 0 + d.val = d.val
    omega

/-- What the reference takes at a row number is the table's row. -/
theorem taken_apply (cb : FVec Ideal S2048x256 .f32) (ids : IVec S16x512 32) (b : Fin 16) (w : Fin 512) (d : Fin 256) (n : Fin 2048)
    (h : ids (ix2 b w) = BitVec.ofNat 32 n.val) : R.taken cb ids (ix3 b w d) = cb (ix2 n d) := by
  have hs := starts_apply ids b w n h
  pointwise [R.taken]
  rw [inRows_apply _ b w n hs, gatherRow_apply cb _ b w d n hs]
  rfl

/-- The reference's second result at an index. -/
theorem taken_sel (x : FVec Ideal S16x1024x256 .f32) (cb : FVec Ideal S2048x256 .f32) (b : Fin 16) (w : Fin 512) (d : Fin 256) :
    R.taken cb (R.nearest (R.dists (R.meanRows x) cb)) (ix3 b w d) = cb (ix2 (sel x cb b w) d) :=
  taken_apply cb _ b w d _ (nearest_sel x cb b w)

end

section

open Cert.KernelIdeal Cert.KernelIdeal.Gen

theorem tableIn_apply (cb : FVec Ideal S2048x256 .f32) (k : Fin 2048) (h : Fin 2) (l : Fin 128) :
    tableIn cb (ix3 k h l) = cb (ix2 k ⟨h.val * 128 + l.val, by omega⟩) := by
  pointwise [tableIn]

theorem castRows_apply (e : FVec Ideal S8192x2x128 .f32) (b : Fin 16) (w : Fin 512) (d : Fin 256) :
    shapeCast S16x512x256 e shapeCasts_S8192x2x128_S16x512x256 (ix3 b w d)
      = e (ix3 ⟨b.val * 512 + w.val, by omega⟩ ⟨d.val / 128, by omega⟩ ⟨d.val % 128, by omega⟩) := by
  pointwise []

theorem embOf_apply (ia : IVec S64x128 32) (ta : FVec Ideal S2048x2x128 .f32) (r : Fin 8192) (h : Fin 2) (l : Fin 128) :
    embOf (F := Ideal) ia ta (ix3 r h l) = ta (ix3 (rowAt ia r) h l) := rfl

/-- The kernel's second result is the reference's. -/
theorem second_result (x : FVec Ideal S16x1024x256 .f32) (cb : FVec Ideal S2048x256 .f32) :
    shapeCast S16x512x256 (embOf (F := Ideal) (numsIn x cb) (tableIn cb)) shapeCasts_S8192x2x128_S16x512x256
      = R.taken cb (R.nearest (R.dists (R.meanRows x) cb)) := by
  funext j
  obtain ⟨b, w, d, rfl⟩ : ∃ (b : Fin 16) (w : Fin 512) (d : Fin 256), (ix3 b w d : S16x512x256.Idx) = j :=
    ⟨j 0, j 1, j 2, (eq_ix3 (n0 := 16) (n1 := 512) (n2 := 256) j).symm⟩
  refine (castRows_apply _ b w d).trans ((embOf_apply _ _ _ _ _).trans ((tableIn_apply cb _ _ _).trans (Eq.trans ?_ (taken_sel x cb b w d).symm)))
  rw [rowAt_sel]
  exact congrArg₂ (fun (n : Fin 2048) (e : Fin 256) => cb (ix2 n e)) (sel_congr x cb (by simp only; omega) (by simp only; omega))
    (Fin.ext (by simp only; omega))

end

end Cert.Proof

end
-- ==== Proof.Loss.lean ====
/-
  Over the extended reals the kernel's third result is the reference's: the sum of the gathered row sums, tile by tile and lane by lane, is
  the sum over all rows, and the product with 2⁻²¹ is the quotient by 2²¹.
-/
module

public import proofs.«01_k».proof.Proof.Rows

@[expose] public section

noncomputable section

namespace Cert.Proof

open Idealize.ShloMosaic

/-- The squared difference between row `k` of the table and its image, summed along the row. -/
def rowErr (cb : (⟨2, ![2048, 256]⟩ : Shape).Idx → EReal) (w : (⟨2, ![256, 256]⟩ : Shape).Idx → EReal) (b : (⟨1, ![256]⟩ : Shape).Idx → EReal)
    (k : Fin 2048) : EReal :=
  ∑ d : Fin 256, (∑ e : Fin 256, cb (ix2 k e) * w (ix2 e d) + b (ix1 d) - cb (ix2 k d))
    * (∑ e : Fin 256, cb (ix2 k e) * w (ix2 e d) + b (ix1 d) - cb (ix2 k d))

theorem scale_eq : Ideal.ofBits .f32 0x35000000#32 = (((2097152 : ℝ)⁻¹ : ℝ) : EReal) := by
  simp [Ideal.ofBits, Ideal.ieee, -EReal.coe_mul]; norm_num

theorem count_eq : Ideal.ofBits .f32 0x4A000000#32 = ((2097152 : ℝ) : EReal) := by
  simp [Ideal.ofBits, Ideal.ieee, -EReal.coe_mul]; norm_num

/-- The product with 2⁻²¹ is the quotient by 2²¹, at the infinities too. -/
theorem div_count (y : EReal) : Ideal.div y ((2097152 : ℝ) : EReal) = y * (((2097152 : ℝ)⁻¹ : ℝ) : EReal) := by
  unfold Ideal.div
  rw [if_neg (by norm_cast), EReal.coe_inv]

/-- The sum over all rows, taken tile by tile, lane by lane and lane group by lane group. -/
theorem sum_tiles (f : Fin 8192 → EReal) :
    ∑ t : Fin 32, ∑ l : Fin 16, ∑ g : Fin 16, f ⟨256 * t.val + 16 * g.val + l.val, by omega⟩ = ∑ r, f r := by
  rw [Fin.sum_univ_tiles 32 256 rfl f]
  refine Finset.sum_congr rfl fun t _ => ?_
  rw [Fin.sum_univ_tiles 16 16 rfl, Finset.sum_comm]
  refine Finset.sum_congr rfl fun g _ => Finset.sum_congr rfl fun l _ => congrArg f (Fin.ext ?_)
  simp only
  omega

section

open Cert.KernelIdeal Cert.KernelIdeal.Gen

theorem sumsIn_apply (cb : FVec Ideal S2048x256 .f32) (w : FVec Ideal S256x256 .f32) (b : FVec Ideal S256 .f32) (k : Fin 2048) :
    sumsIn cb w b (ix1 k) = rowErr cb w b k := by
  unfold rowErr
  pointwise [sumsIn, rowSums, k0_pay2]

theorem total_apply (p : FVec Ideal S32x16 .f32) (j : S_.Idx) :
    (shapeCast S_ (mulf (Host.reduceAdd p (constant S_ .f32 0x00000000#32) reducesTo_S32x16_S_d0_1 h_S_) (constant S_ .f32 0x35000000#32))
      shapeCasts_S_S_ : FVec Ideal S_ .f32) j = (∑ t : Fin 32, ∑ l : Fin 16, p (ix2 t l)) * Ideal.ofBits .f32 0x35000000#32 := by
  pointwise []

theorem groups_apply (G : Fin 16 → FVec Ideal S16 .f32) (l : Fin 16) :
    k1_pay1 (F := Ideal) (k1_pay2 (G 0) (G 1) (G 2) (G 3) (G 4) (G 5) (G 6) (G 7) (G 8) (G 9) (G 10) (G 11) (G 12) (G 13) (G 14)) (G 15)
      (ix1 (n0 := 16) l) = ∑ g : Fin 16, G g (ix1 l) := by
  rw [sum_sixteen fun g => G g (ix1 l)]
  pointwise [k1_pay1, k1_pay2]

theorem partsOf_apply (ia : IVec S64x128 32) (sa : FVec Ideal S2048 .f32) (t : Fin 32) (l : Fin 16) :
    partsOf (F := Ideal) ia sa (ix2 t l) = ∑ g : Fin 16, sa (ix1 (rowAt ia ⟨256 * t.val + 16 * g.val + l.val, by omega⟩)) :=
  groups_apply (laneGroup ia sa t) l

/-- The kernel's third result: the summed errors of the named rows, times 2⁻²¹. -/
theorem kernel_loss (ia : IVec S64x128 32) (cb : FVec Ideal S2048x256 .f32) (w : FVec Ideal S256x256 .f32) (b : FVec Ideal S256 .f32) (j : S_.Idx) :
    (shapeCast S_ (mulf (Host.reduceAdd (partsOf (F := Ideal) ia (sumsIn cb w b) : FVec Ideal S32x16 .f32) (constant S_ .f32 0x00000000#32)
      reducesTo_S32x16_S_d0_1 h_S_) (constant S_ .f32 0x35000000#32)) shapeCasts_S_S_ : FVec Ideal S_ .f32) j
      = (∑ r : Fin 8192, rowErr cb w b (rowAt ia r)) * (((2097152 : ℝ)⁻¹ : ℝ) : EReal) := by
  rw [total_apply, scale_eq, ← sum_tiles]
  simp only [partsOf_apply, sumsIn_apply]

end

section

open Cert.ReferenceIdeal Cert.ReferenceIdeal.Gen

/-- The reference's third result, when its rows are rows of the table. -/
theorem reference_loss (e : FVec Ideal S16x512x256 .f32) (cb : FVec Ideal S2048x256 .f32) (w : FVec Ideal S256x256 .f32) (b : FVec Ideal S256 .f32)
    (n : Fin 8192 → Fin 2048) (h : ∀ (r : Fin 8192) (d : Fin 256), e (ix3 ⟨r.val / 512, by omega⟩ ⟨r.val % 512, by omega⟩ d) = cb (ix2 (n r) d))
    (j : S_.Idx) : R.meanSq e w b j = (∑ r : Fin 8192, rowErr cb w b (n r)) * (((2097152 : ℝ)⁻¹ : ℝ) : EReal) := by
  rw [← div_count, ← count_eq]
  unfold rowErr
  simp only [← h]
  pointwise [R.meanSq]

end

section

open Cert.KernelIdeal Cert.KernelIdeal.Gen

/-- The kernel's third result is the reference's. -/
theorem third_result (x : FVec Ideal S16x1024x256 .f32) (cb : FVec Ideal S2048x256 .f32) (w : FVec Ideal S256x256 .f32) (b : FVec Ideal S256 .f32) :
    (shapeCast S_ (mulf (Host.reduceAdd (partsOf (F := Ideal) (numsIn x cb) (sumsIn cb w b) : FVec Ideal S32x16 .f32) (constant S_ .f32 0x00000000#32)
      reducesTo_S32x16_S_d0_1 h_S_) (constant S_ .f32 0x35000000#32)) shapeCasts_S_S_ : FVec Ideal S_ .f32)
      = R.meanSq (R.taken cb (R.nearest (R.dists (R.meanRows x) cb))) w b := by
  funext j
  refine (kernel_loss (numsIn x cb) cb w b j).trans (reference_loss _ cb w b (rowAt (numsIn x cb)) (fun r d => ?_) j).symm
  rw [rowAt_sel]
  exact taken_sel x cb _ _ d

end

end Cert.Proof

end
-- ==== Proof.Equal.lean ====
/-
  Over the extended reals the kernel and the reference end with equal results: row numbers, rows and loss.
-/
module

public import proofs.«01_k».proof.Proof.Loss
public import proofs.«01_k».proof.Proof.Frames

@[expose] public section

noncomputable section

namespace Cert.Proof

open Idealize.ShloMosaic Idealize.ShloMosaic.StableHlo Idealize.ShloMosaic.TcCoe

/-- The reference's first result from its contents at the start. -/
theorem ref_first (m : (ℓ : Loc Cert.KernelIdeal.nD Cert.KernelIdeal.τ Cert.KernelIdeal.sig) → Buf (Elt Ideal) ℓ) (d : Dev Cert.KernelIdeal.nD)
    (V : Valuation Cert.ReferenceIdeal.τ Cert.ReferenceIdeal.sig (Elt Ideal))
    (h1 : V Cert.ReferenceIdeal.main_arg1 = A1 m d) (h2 : V Cert.ReferenceIdeal.main_arg2 = A2 m d) :
    after R.ops V Cert.ReferenceIdeal.main_v17 = at5 m d Cert.KernelIdeal.main_v12 := by
  refine (R.v17_eq V).trans (Eq.trans ?_ ((at5_v12 m d).trans (first_result _ _)).symm)
  rw [h1, h2]

/-- The reference's second result from its contents at the start. -/
theorem ref_second (m : (ℓ : Loc Cert.KernelIdeal.nD Cert.KernelIdeal.τ Cert.KernelIdeal.sig) → Buf (Elt Ideal) ℓ) (d : Dev Cert.KernelIdeal.nD)
    (V : Valuation Cert.ReferenceIdeal.τ Cert.ReferenceIdeal.sig (Elt Ideal))
    (h1 : V Cert.ReferenceIdeal.main_arg1 = A1 m d) (h2 : V Cert.ReferenceIdeal.main_arg2 = A2 m d) :
    after R.ops V Cert.ReferenceIdeal.main_v18 = at5 m d Cert.KernelIdeal.main_v13 := by
  refine (R.v18_eq V).trans (Eq.trans ?_ ((at5_v13 m d).trans (second_result _ _)).symm)
  rw [h1, h2]

/-- The reference's third result from its contents at the start. -/
theorem ref_third (m : (ℓ : Loc Cert.KernelIdeal.nD Cert.KernelIdeal.τ Cert.KernelIdeal.sig) → Buf (Elt Ideal) ℓ) (d : Dev Cert.KernelIdeal.nD)
    (V : Valuation Cert.ReferenceIdeal.τ Cert.ReferenceIdeal.sig (Elt Ideal))
    (h1 : V Cert.ReferenceIdeal.main_arg1 = A1 m d) (h2 : V Cert.ReferenceIdeal.main_arg2 = A2 m d)
    (h3 : V Cert.ReferenceIdeal.main_arg3 = A3 m d) (h4 : V Cert.ReferenceIdeal.main_arg4 = A4 m d) :
    after R.ops V Cert.ReferenceIdeal.main_v27 = at5 m d Cert.KernelIdeal.main_v14 := by
  refine (R.v27_eq V).trans (Eq.trans ?_ ((at5_v14 m d).trans (third_result _ _ _ _)).symm)
  rw [h1, h2, h3, h4]

/-- From equal arguments the kernel and the reference both run, end with equal results over the extended reals, and keep their arguments. -/
theorem algebraic : Cert.algebraic_KernelIdeal_ReferenceIdeal := by
  intro m g m' g' _ hargs
  refine ⟨fun c => at5 m c Cert.KernelIdeal.main_v12, fun c => at5 m c Cert.KernelIdeal.main_v13, fun c => at5 m c Cert.KernelIdeal.main_v14, ?_, ?_⟩
  · refine (θ_run (Cert.KernelIdeal.defs (F := Ideal)) (Cert.KernelIdeal.threads (F := Ideal)) _).mono ?_ (run_main (F := Ideal) m g (hin_ideal m))
    rintro r ⟨h, -⟩ c
    obtain ⟨h12, h13, h14, a0, a1, a2, a3, a4⟩ := h c
    exact ⟨h12, h13, h14, a0.trans (at5_arg m c _ (.inl rfl)), a1.trans (at5_arg m c _ (.inr (.inl rfl))),
      a2.trans (at5_arg m c _ (.inr (.inr (.inl rfl)))), a3.trans (at5_arg m c _ (.inr (.inr (.inr (.inl rfl))))),
      a4.trans (at5_arg m c _ (.inr (.inr (.inr (.inr rfl)))))⟩
  · refine (θ_run (Cert.ReferenceIdeal.defs (F := Ideal)) (onTc (τ := Cert.ReferenceIdeal.τ) (Cert.ReferenceIdeal.main (F := Ideal))) _).mono ?_
      (R.run_main m' g')
    intro r h c
    obtain ⟨-, e1, e2, e3, e4⟩ := hargs c
    exact ⟨(h c _).trans (ref_first m c _ e1 e2), (h c _).trans (ref_second m c _ e1 e2), (h c _).trans (ref_third m c _ e1 e2 e3 e4),
      (h c _).trans (R.arg0 _), (h c _).trans (R.arg1 _), (h c _).trans (R.arg2 _), (h c _).trans (R.arg3 _), (h c _).trans (R.arg4 _)⟩

end Cert.Proof

end
-- ==== Proof.lean ====
/-
  The claims: the two readings of the kernel and the reference run without fault, the printed idealization changes nothing, and over the extended
  reals the kernel's three results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equal

@[expose] public section

noncomputable section

namespace Cert.Proof

open Idealize.ShloMosaic

theorem claim : Cert.Claim := ⟨Cert.Kernel.Gen.facts, Cert.KernelIdeal.Gen.facts, Cert.ReferenceIdeal.Gen.facts,
  frame_kernel, frame_kernelIdeal, frame_reference, trivial, algebraic⟩

end Cert.Proof

end
